-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "inv_n" .f32 0x35638E39#32 ((1 / 1179648 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)) (v2 : (c : Dev Cert.KernelIdeal.nD) → Buf (Elt Ideal) ((c.tc : Thread Cert.KernelIdeal.nD Cert.KernelIdeal.τ).loc Cert.KernelIdeal.main_v12_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_v12_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v263) = v0 c
          ∧ r.2.mem ((c.tc : Thread Cert.ReferenceIdeal.nD Cert.ReferenceIdeal.τ).loc Cert.ReferenceIdeal.main_v264) = v1 c
          ∧ r.2.mem ((c.tc : Thread Cert.ReferenceIdeal.nD Cert.ReferenceIdeal.τ).loc Cert.ReferenceIdeal.main_v265) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x576x256 : Shape := ⟨3, ![8, 576, 256]⟩
abbrev S4x1024x256 : Shape := ⟨3, ![4, 1024, 256]⟩
abbrev S4608x256 : Shape := ⟨2, ![4608, 256]⟩
abbrev S4608x4 : Shape := ⟨2, ![4608, 4]⟩
abbrev S1x4 : Shape := ⟨2, ![1, 4]⟩
abbrev S512x256 : Shape := ⟨2, ![512, 256]⟩
abbrev S512x4 : Shape := ⟨2, ![512, 4]⟩
abbrev S4x1024 : Shape := ⟨2, ![4, 1024]⟩
abbrev S1x1024x256 : Shape := ⟨3, ![1, 1024, 256]⟩
abbrev S1024x256 : Shape := ⟨2, ![1024, 256]⟩
abbrev S1024x128 : Shape := ⟨2, ![1024, 128]⟩
abbrev S128x1024 : Shape := ⟨2, ![128, 1024]⟩
abbrev S8x1024 : Shape := ⟨2, ![8, 1024]⟩
abbrev S2x1024 : Shape := ⟨2, ![2, 1024]⟩
abbrev S1x1024 : Shape := ⟨2, ![1, 1024]⟩
abbrev S512x1024 : Shape := ⟨2, ![512, 1024]⟩
abbrev S512x128 : Shape := ⟨2, ![512, 128]⟩
abbrev S128x512 : Shape := ⟨2, ![128, 512]⟩
abbrev S8x512 : Shape := ⟨2, ![8, 512]⟩
abbrev S4x512 : Shape := ⟨2, ![4, 512]⟩
abbrev S2x512 : Shape := ⟨2, ![2, 512]⟩
abbrev S1x512 : Shape := ⟨2, ![1, 512]⟩
abbrev S512x1 : Shape := ⟨2, ![512, 1]⟩
abbrev S512 : Shape := ⟨1, ![512]⟩
abbrev S1x512x256 : Shape := ⟨3, ![1, 512, 256]⟩
abbrev S1 : Shape := ⟨1, ![1]⟩
abbrev S1x1x1 : Shape := ⟨3, ![1, 1, 1]⟩
abbrev S1x1 : Shape := ⟨2, ![1, 1]⟩

abbrev nBuf : Space → Nat
  | .hbm => 17
  | .vmem => 14
  | .smem => 0
  | _ => 0

abbrev bufTy : (tb : Table) → Fin (tcTables nBuf tb) → BufTy
  | .hbm, ⟨0, _⟩ => ⟨S8x576x256, .f32⟩
  | .hbm, ⟨1, _⟩ => ⟨S4x1024x256, .f32⟩
  | .hbm, ⟨2, _⟩ => ⟨S4608x256, .f32⟩
  | .hbm, ⟨3, _⟩ => ⟨S4x1024x256, .bf16⟩
  | .hbm, ⟨4, _⟩ => ⟨S4x1024x256, .bf16⟩
  | .hbm, ⟨5, _⟩ => ⟨S4x1024x256, .f32⟩
  | .hbm, ⟨6, _⟩ => ⟨S4x1024x256, .f32⟩
  | .hbm, ⟨7, _⟩ => ⟨S4x1024x256, .f32⟩
  | .hbm, ⟨8, _⟩ => ⟨S4x1024x256, .bf16⟩
  | .hbm, ⟨9, _⟩ => ⟨S4x1024x256, .bf16⟩
  | .hbm, ⟨10, _⟩ => ⟨S4x1024x256, .f32⟩
  | .hbm, ⟨11, _⟩ => ⟨S4x1024x256, .f32⟩
  | .hbm, ⟨12, _⟩ => ⟨S4x1024x256, .bf16⟩
  | .hbm, ⟨13, _⟩ => ⟨S4x1024x256, .bf16⟩
  | .hbm, ⟨14, _⟩ => ⟨S4608x256, .f32⟩
  | .hbm, ⟨15, _⟩ => ⟨S4608x4, .i32⟩
  | .hbm, ⟨16, _⟩ => ⟨S1x4, .f32⟩
  | .local _ .vmem, ⟨0, _⟩ => ⟨S512x256, .f32⟩
  | .local _ .vmem, ⟨1, _⟩ => ⟨S512x256, .f32⟩
  | .local _ .vmem, ⟨2, _⟩ => ⟨S4x1024x256, .f32⟩
  | .local _ .vmem, ⟨3, _⟩ => ⟨S4x1024x256, .bf16⟩
  | .local _ .vmem, ⟨4, _⟩ => ⟨S4x1024x256, .bf16⟩
  | .local _ .vmem, ⟨5, _⟩ => ⟨S4x1024x256, .bf16⟩
  | .local _ .vmem, ⟨6, _⟩ => ⟨S512x256, .f32⟩
  | .local _ .vmem, ⟨7, _⟩ => ⟨S512x256, .f32⟩
  | .local _ .vmem, ⟨8, _⟩ => ⟨S512x4, .i32⟩
  | .local _ .vmem, ⟨9, _⟩ => ⟨S512x4, .i32⟩
  | .local _ .vmem, ⟨10, _⟩ => ⟨S1x4, .f32⟩
  | .local _ .vmem, ⟨11, _⟩ => ⟨S4x1024, .f32⟩
  | .local _ .vmem, ⟨12, _⟩ => ⟨S512x256, .f32⟩
  | .local _ .vmem, ⟨13, _⟩ => ⟨S1x4, .f32⟩
  | _, _ => ⟨S8x576x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12_0 : Ref sig .tc := ⟨.hbm, 14, rfl⟩
abbrev main_v12_1 : Ref sig .tc := ⟨.hbm, 15, rfl⟩
abbrev main_v12_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x4 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x4 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== KernelIdeal.lean ====
variable {F : FTy → Type} [FloatOps F] [Named F]
def κ : String → Option EReal := fun
  | "inv_n" => some ((1 / 1179648 : ℝ) : EReal)
  | _ => none
-- ==== ReferenceIdeal.lean ====
abbrev S8x576x256 : Shape := ⟨3, ![8, 576, 256]⟩
abbrev S4x1024x256 : Shape := ⟨3, ![4, 1024, 256]⟩
abbrev S_ : Shape := ⟨0, ![]⟩
abbrev S1x1024x256 : Shape := ⟨3, ![1, 1024, 256]⟩
abbrev S1024x256 : Shape := ⟨2, ![1024, 256]⟩
abbrev S4608x256 : Shape := ⟨2, ![4608, 256]⟩
abbrev S4608 : Shape := ⟨1, ![4608]⟩
abbrev S4608x1 : Shape := ⟨2, ![4608, 1]⟩
abbrev S256x1024 : Shape := ⟨2, ![256, 1024]⟩
abbrev S4608x1024 : Shape := ⟨2, ![4608, 1024]⟩
abbrev S1024 : Shape := ⟨1, ![1024]⟩
abbrev S1x1024 : Shape := ⟨2, ![1, 1024]⟩
abbrev S1 : Shape := ⟨1, ![1]⟩
abbrev S1x1 : Shape := ⟨2, ![1, 1]⟩
abbrev S8x576 : Shape := ⟨2, ![8, 576]⟩
abbrev S8x576x1 : Shape := ⟨3, ![8, 576, 1]⟩
abbrev S8x576x4 : Shape := ⟨3, ![8, 576, 4]⟩
abbrev S4 : Shape := ⟨1, ![4]⟩
abbrev S4608x4 : Shape := ⟨2, ![4608, 4]⟩
abbrev S1x4 : Shape := ⟨2, ![1, 4]⟩

abbrev nBuf : Space → Nat
  | .hbm => 469
  | .vmem => 0
  | .smem => 0
  | _ => 0

abbrev hbmTy0_0 (i : Nat) : BufTy := match i % 128 with
  | 0 => ⟨S8x576x256, .f32⟩
  | 1 => ⟨S4x1024x256, .f32⟩
  | 2 => ⟨S_, .f32⟩
  | 3 => ⟨S8x576x256, .f32⟩
  | 4 => ⟨S1x1024x256, .f32⟩
  | 5 => ⟨S1024x256, .f32⟩
  | 6 => ⟨S4608x256, .f32⟩
  | 7 => ⟨S4608x256, .f32⟩
  | 8 => ⟨S_, .f32⟩
  | 9 => ⟨S4608, .f32⟩
  | 10 => ⟨S4608x1, .f32⟩
  | 11 => ⟨S_, .f32⟩
  | 12 => ⟨S4608x256, .f32⟩
  | 13 => ⟨S4608x256, .f32⟩
  | 14 => ⟨S256x1024, .f32⟩
  | 15 => ⟨S4608x1024, .f32⟩
  | 16 => ⟨S4608x1024, .f32⟩
  | 17 => ⟨S4608x1024, .f32⟩
  | 18 => ⟨S1024x256, .f32⟩
  | 19 => ⟨S_, .f32⟩
  | 20 => ⟨S1024, .f32⟩
  | 21 => ⟨S1x1024, .f32⟩
  | 22 => ⟨S4608x1024, .f32⟩
  | 23 => ⟨S4608x1024, .f32⟩
  | 24 => ⟨S4608x1024, .i32⟩
  | 25 => ⟨S_, .f32⟩
  | 26 => ⟨S_, .i32⟩
  | 27 => ⟨S4608, .f32⟩
  | 28 => ⟨S4608, .i32⟩
  | 29 => ⟨S_, .i32⟩
  | 30 => ⟨S4608, .i32⟩
  | 31 => ⟨S4608, .i1⟩
  | 32 => ⟨S_, .i32⟩
  | 33 => ⟨S4608, .i32⟩
  | 34 => ⟨S4608, .i32⟩
  | 35 => ⟨S4608, .i32⟩
  | 36 => ⟨S4608x1, .i32⟩
  | 37 => ⟨S1, .i32⟩
  | 38 => ⟨S_, .i32⟩
  | 39 => ⟨S4608x1, .i32⟩
  | 40 => ⟨S4608x1, .i1⟩
  | 41 => ⟨S1x1, .i32⟩
  | 42 => ⟨S4608x1, .i32⟩
  | 43 => ⟨S4608x1, .i1⟩
  | 44 => ⟨S4608x1, .i1⟩
  | 45 => ⟨S_, .i1⟩
  | 46 => ⟨S4608, .i1⟩
  | 47 => ⟨S4608x256, .f32⟩
  | 48 => ⟨S4608x256, .i1⟩
  | 49 => ⟨S_, .f32⟩
  | 50 => ⟨S4608x256, .f32⟩
  | 51 => ⟨S4608x256, .f32⟩
  | 52 => ⟨S4608x256, .f32⟩
  | 53 => ⟨S4608x256, .f32⟩
  | 54 => ⟨S_, .f32⟩
  | 55 => ⟨S_, .f32⟩
  | 56 => ⟨S_, .f32⟩
  | 57 => ⟨S_, .f32⟩
  | 58 => ⟨S4608x256, .f32⟩
  | 59 => ⟨S_, .f32⟩
  | 60 => ⟨S4608, .f32⟩
  | 61 => ⟨S4608x1, .f32⟩
  | 62 => ⟨S4608x1, .f32⟩
  | 63 => ⟨S4608x256, .f32⟩
  | 64 => ⟨S_, .f32⟩
  | 65 => ⟨S4608, .f32⟩
  | 66 => ⟨S4608x1, .f32⟩
  | 67 => ⟨S4608x1, .f32⟩
  | 68 => ⟨S_, .f32⟩
  | 69 => ⟨S4608x1, .f32⟩
  | 70 => ⟨S4608x1, .f32⟩
  | 71 => ⟨S4608x256, .f32⟩
  | 72 => ⟨S4608x256, .f32⟩
  | 73 => ⟨S_, .f32⟩
  | 74 => ⟨S4608x1, .f32⟩
  | 75 => ⟨S4608x1, .f32⟩
  | 76 => ⟨S4608x256, .f32⟩
  | 77 => ⟨S4608x256, .f32⟩
  | 78 => ⟨S4608x256, .f32⟩
  | 79 => ⟨S4608x256, .f32⟩
  | 80 => ⟨S4608x256, .f32⟩
  | 81 => ⟨S_, .f32⟩
  | 82 => ⟨S4608, .f32⟩
  | 83 => ⟨S4608x1, .f32⟩
  | 84 => ⟨S4608x1, .f32⟩
  | 85 => ⟨S4608x256, .f32⟩
  | 86 => ⟨S4608x256, .f32⟩
  | 87 => ⟨S4608x256, .f32⟩
  | 88 => ⟨S_, .f32⟩
  | 89 => ⟨S4608, .f32⟩
  | 90 => ⟨S4608x1, .f32⟩
  | 91 => ⟨S4608x256, .f32⟩
  | 92 => ⟨S_, .f32⟩
  | 93 => ⟨S4608, .f32⟩
  | 94 => ⟨S4608x1, .f32⟩
  | 95 => ⟨S_, .f32⟩
  | 96 => ⟨S4608x1, .f32⟩
  | 97 => ⟨S4608x1, .f32⟩
  | 98 => ⟨S4608x256, .f32⟩
  | 99 => ⟨S4608x256, .f32⟩
  | 100 => ⟨S4608x256, .f32⟩
  | 101 => ⟨S_, .f32⟩
  | 102 => ⟨S4608x1, .f32⟩
  | 103 => ⟨S4608x1, .f32⟩
  | 104 => ⟨S4608x256, .f32⟩
  | 105 => ⟨S4608x256, .f32⟩
  | 106 => ⟨S4608x256, .f32⟩
  | 107 => ⟨S_, .f32⟩
  | 108 => ⟨S4608x1, .f32⟩
  | 109 => ⟨S4608x1, .f32⟩
  | 110 => ⟨S4608x1, .f32⟩
  | 111 => ⟨S4608x256, .f32⟩
  | 112 => ⟨S4608x256, .f32⟩
  | 113 => ⟨S8x576x256, .f32⟩
  | 114 => ⟨S8x576x256, .f32⟩
  | 115 => ⟨S8x576x256, .f32⟩
  | 116 => ⟨S8x576, .i32⟩
  | 117 => ⟨S1x1024x256, .f32⟩
  | 118 => ⟨S1024x256, .f32⟩
  | 119 => ⟨S4608x256, .f32⟩
  | 120 => ⟨S4608x256, .f32⟩
  | 121 => ⟨S_, .f32⟩
  | 122 => ⟨S4608, .f32⟩
  | 123 => ⟨S4608x1, .f32⟩
  | 124 => ⟨S_, .f32⟩
  | 125 => ⟨S4608x256, .f32⟩
  | 126 => ⟨S4608x256, .f32⟩
  | 127 => ⟨S256x1024, .f32⟩
  | _ => ⟨S8x576x256, .f32⟩

abbrev hbmTy0_1 (i : Nat) : BufTy := match i % 128 with
  | 0 => ⟨S4608x1024, .f32⟩
  | 1 => ⟨S4608x1024, .f32⟩
  | 2 => ⟨S4608x1024, .f32⟩
  | 3 => ⟨S1024x256, .f32⟩
  | 4 => ⟨S_, .f32⟩
  | 5 => ⟨S1024, .f32⟩
  | 6 => ⟨S1x1024, .f32⟩
  | 7 => ⟨S4608x1024, .f32⟩
  | 8 => ⟨S4608x1024, .f32⟩
  | 9 => ⟨S4608x1024, .i32⟩
  | 10 => ⟨S_, .f32⟩
  | 11 => ⟨S_, .i32⟩
  | 12 => ⟨S4608, .f32⟩
  | 13 => ⟨S4608, .i32⟩
  | 14 => ⟨S_, .i32⟩
  | 15 => ⟨S4608, .i32⟩
  | 16 => ⟨S4608, .i1⟩
  | 17 => ⟨S_, .i32⟩
  | 18 => ⟨S4608, .i32⟩
  | 19 => ⟨S4608, .i32⟩
  | 20 => ⟨S4608, .i32⟩
  | 21 => ⟨S4608x1, .i32⟩
  | 22 => ⟨S1, .i32⟩
  | 23 => ⟨S_, .i32⟩
  | 24 => ⟨S4608x1, .i32⟩
  | 25 => ⟨S4608x1, .i1⟩
  | 26 => ⟨S1x1, .i32⟩
  | 27 => ⟨S4608x1, .i32⟩
  | 28 => ⟨S4608x1, .i1⟩
  | 29 => ⟨S4608x1, .i1⟩
  | 30 => ⟨S_, .i1⟩
  | 31 => ⟨S4608, .i1⟩
  | 32 => ⟨S4608x256, .f32⟩
  | 33 => ⟨S4608x256, .i1⟩
  | 34 => ⟨S_, .f32⟩
  | 35 => ⟨S4608x256, .f32⟩
  | 36 => ⟨S4608x256, .f32⟩
  | 37 => ⟨S4608x256, .f32⟩
  | 38 => ⟨S4608x256, .f32⟩
  | 39 => ⟨S_, .f32⟩
  | 40 => ⟨S_, .f32⟩
  | 41 => ⟨S_, .f32⟩
  | 42 => ⟨S_, .f32⟩
  | 43 => ⟨S4608x256, .f32⟩
  | 44 => ⟨S_, .f32⟩
  | 45 => ⟨S4608, .f32⟩
  | 46 => ⟨S4608x1, .f32⟩
  | 47 => ⟨S4608x1, .f32⟩
  | 48 => ⟨S4608x256, .f32⟩
  | 49 => ⟨S_, .f32⟩
  | 50 => ⟨S4608, .f32⟩
  | 51 => ⟨S4608x1, .f32⟩
  | 52 => ⟨S4608x1, .f32⟩
  | 53 => ⟨S_, .f32⟩
  | 54 => ⟨S4608x1, .f32⟩
  | 55 => ⟨S4608x1, .f32⟩
  | 56 => ⟨S4608x256, .f32⟩
  | 57 => ⟨S4608x256, .f32⟩
  | 58 => ⟨S_, .f32⟩
  | 59 => ⟨S4608x1, .f32⟩
  | 60 => ⟨S4608x1, .f32⟩
  | 61 => ⟨S4608x256, .f32⟩
  | 62 => ⟨S4608x256, .f32⟩
  | 63 => ⟨S4608x256, .f32⟩
  | 64 => ⟨S4608x256, .f32⟩
  | 65 => ⟨S4608x256, .f32⟩
  | 66 => ⟨S_, .f32⟩
  | 67 => ⟨S4608, .f32⟩
  | 68 => ⟨S4608x1, .f32⟩
  | 69 => ⟨S4608x1, .f32⟩
  | 70 => ⟨S4608x256, .f32⟩
  | 71 => ⟨S4608x256, .f32⟩
  | 72 => ⟨S4608x256, .f32⟩
  | 73 => ⟨S_, .f32⟩
  | 74 => ⟨S4608, .f32⟩
  | 75 => ⟨S4608x1, .f32⟩
  | 76 => ⟨S4608x256, .f32⟩
  | 77 => ⟨S_, .f32⟩
  | 78 => ⟨S4608, .f32⟩
  | 79 => ⟨S4608x1, .f32⟩
  | 80 => ⟨S_, .f32⟩
  | 81 => ⟨S4608x1, .f32⟩
  | 82 => ⟨S4608x1, .f32⟩
  | 83 => ⟨S4608x256, .f32⟩
  | 84 => ⟨S4608x256, .f32⟩
  | 85 => ⟨S4608x256, .f32⟩
  | 86 => ⟨S_, .f32⟩
  | 87 => ⟨S4608x1, .f32⟩
  | 88 => ⟨S4608x1, .f32⟩
  | 89 => ⟨S4608x256, .f32⟩
  | 90 => ⟨S4608x256, .f32⟩
  | 91 => ⟨S4608x256, .f32⟩
  | 92 => ⟨S_, .f32⟩
  | 93 => ⟨S4608x1, .f32⟩
  | 94 => ⟨S4608x1, .f32⟩
  | 95 => ⟨S4608x1, .f32⟩
  | 96 => ⟨S4608x256, .f32⟩
  | 97 => ⟨S4608x256, .f32⟩
  | 98 => ⟨S8x576x256, .f32⟩
  | 99 => ⟨S8x576x256, .f32⟩
  | 100 => ⟨S8x576x256, .f32⟩
  | 101 => ⟨S8x576, .i32⟩
  | 102 => ⟨S1x1024x256, .f32⟩
  | 103 => ⟨S1024x256, .f32⟩
  | 104 => ⟨S4608x256, .f32⟩
  | 105 => ⟨S4608x256, .f32⟩
  | 106 => ⟨S_, .f32⟩
  | 107 => ⟨S4608, .f32⟩
  | 108 => ⟨S4608x1, .f32⟩
  | 109 => ⟨S_, .f32⟩
  | 110 => ⟨S4608x256, .f32⟩
  | 111 => ⟨S4608x256, .f32⟩
  | 112 => ⟨S256x1024, .f32⟩
  | 113 => ⟨S4608x1024, .f32⟩
  | 114 => ⟨S4608x1024, .f32⟩
  | 115 => ⟨S4608x1024, .f32⟩
  | 116 => ⟨S1024x256, .f32⟩
  | 117 => ⟨S_, .f32⟩
  | 118 => ⟨S1024, .f32⟩
  | 119 => ⟨S1x1024, .f32⟩
  | 120 => ⟨S4608x1024, .f32⟩
  | 121 => ⟨S4608x1024, .f32⟩
  | 122 => ⟨S4608x1024, .i32⟩
  | 123 => ⟨S_, .f32⟩
  | 124 => ⟨S_, .i32⟩
  | 125 => ⟨S4608, .f32⟩
  | 126 => ⟨S4608, .i32⟩
  | 127 => ⟨S_, .i32⟩
  | _ => ⟨S8x576x256, .f32⟩

abbrev hbmTy0_2 (i : Nat) : BufTy := match i % 128 with
  | 0 => ⟨S4608, .i32⟩
  | 1 => ⟨S4608, .i1⟩
  | 2 => ⟨S_, .i32⟩
  | 3 => ⟨S4608, .i32⟩
  | 4 => ⟨S4608, .i32⟩
  | 5 => ⟨S4608, .i32⟩
  | 6 => ⟨S4608x1, .i32⟩
  | 7 => ⟨S1, .i32⟩
  | 8 => ⟨S_, .i32⟩
  | 9 => ⟨S4608x1, .i32⟩
  | 10 => ⟨S4608x1, .i1⟩
  | 11 => ⟨S1x1, .i32⟩
  | 12 => ⟨S4608x1, .i32⟩
  | 13 => ⟨S4608x1, .i1⟩
  | 14 => ⟨S4608x1, .i1⟩
  | 15 => ⟨S_, .i1⟩
  | 16 => ⟨S4608, .i1⟩
  | 17 => ⟨S4608x256, .f32⟩
  | 18 => ⟨S4608x256, .i1⟩
  | 19 => ⟨S_, .f32⟩
  | 20 => ⟨S4608x256, .f32⟩
  | 21 => ⟨S4608x256, .f32⟩
  | 22 => ⟨S4608x256, .f32⟩
  | 23 => ⟨S4608x256, .f32⟩
  | 24 => ⟨S_, .f32⟩
  | 25 => ⟨S_, .f32⟩
  | 26 => ⟨S_, .f32⟩
  | 27 => ⟨S_, .f32⟩
  | 28 => ⟨S4608x256, .f32⟩
  | 29 => ⟨S_, .f32⟩
  | 30 => ⟨S4608, .f32⟩
  | 31 => ⟨S4608x1, .f32⟩
  | 32 => ⟨S4608x1, .f32⟩
  | 33 => ⟨S4608x256, .f32⟩
  | 34 => ⟨S_, .f32⟩
  | 35 => ⟨S4608, .f32⟩
  | 36 => ⟨S4608x1, .f32⟩
  | 37 => ⟨S4608x1, .f32⟩
  | 38 => ⟨S_, .f32⟩
  | 39 => ⟨S4608x1, .f32⟩
  | 40 => ⟨S4608x1, .f32⟩
  | 41 => ⟨S4608x256, .f32⟩
  | 42 => ⟨S4608x256, .f32⟩
  | 43 => ⟨S_, .f32⟩
  | 44 => ⟨S4608x1, .f32⟩
  | 45 => ⟨S4608x1, .f32⟩
  | 46 => ⟨S4608x256, .f32⟩
  | 47 => ⟨S4608x256, .f32⟩
  | 48 => ⟨S4608x256, .f32⟩
  | 49 => ⟨S4608x256, .f32⟩
  | 50 => ⟨S4608x256, .f32⟩
  | 51 => ⟨S_, .f32⟩
  | 52 => ⟨S4608, .f32⟩
  | 53 => ⟨S4608x1, .f32⟩
  | 54 => ⟨S4608x1, .f32⟩
  | 55 => ⟨S4608x256, .f32⟩
  | 56 => ⟨S4608x256, .f32⟩
  | 57 => ⟨S4608x256, .f32⟩
  | 58 => ⟨S_, .f32⟩
  | 59 => ⟨S4608, .f32⟩
  | 60 => ⟨S4608x1, .f32⟩
  | 61 => ⟨S4608x256, .f32⟩
  | 62 => ⟨S_, .f32⟩
  | 63 => ⟨S4608, .f32⟩
  | 64 => ⟨S4608x1, .f32⟩
  | 65 => ⟨S_, .f32⟩
  | 66 => ⟨S4608x1, .f32⟩
  | 67 => ⟨S4608x1, .f32⟩
  | 68 => ⟨S4608x256, .f32⟩
  | 69 => ⟨S4608x256, .f32⟩
  | 70 => ⟨S4608x256, .f32⟩
  | 71 => ⟨S_, .f32⟩
  | 72 => ⟨S4608x1, .f32⟩
  | 73 => ⟨S4608x1, .f32⟩
  | 74 => ⟨S4608x256, .f32⟩
  | 75 => ⟨S4608x256, .f32⟩
  | 76 => ⟨S4608x256, .f32⟩
  | 77 => ⟨S_, .f32⟩
  | 78 => ⟨S4608x1, .f32⟩
  | 79 => ⟨S4608x1, .f32⟩
  | 80 => ⟨S4608x1, .f32⟩
  | 81 => ⟨S4608x256, .f32⟩
  | 82 => ⟨S4608x256, .f32⟩
  | 83 => ⟨S8x576x256, .f32⟩
  | 84 => ⟨S8x576x256, .f32⟩
  | 85 => ⟨S8x576x256, .f32⟩
  | 86 => ⟨S8x576, .i32⟩
  | 87 => ⟨S1x1024x256, .f32⟩
  | 88 => ⟨S1024x256, .f32⟩
  | 89 => ⟨S4608x256, .f32⟩
  | 90 => ⟨S4608x256, .f32⟩
  | 91 => ⟨S_, .f32⟩
  | 92 => ⟨S4608, .f32⟩
  | 93 => ⟨S4608x1, .f32⟩
  | 94 => ⟨S_, .f32⟩
  | 95 => ⟨S4608x256, .f32⟩
  | 96 => ⟨S4608x256, .f32⟩
  | 97 => ⟨S256x1024, .f32⟩
  | 98 => ⟨S4608x1024, .f32⟩
  | 99 => ⟨S4608x1024, .f32⟩
  | 100 => ⟨S4608x1024, .f32⟩
  | 101 => ⟨S1024x256, .f32⟩
  | 102 => ⟨S_, .f32⟩
  | 103 => ⟨S1024, .f32⟩
  | 104 => ⟨S1x1024, .f32⟩
  | 105 => ⟨S4608x1024, .f32⟩
  | 106 => ⟨S4608x1024, .f32⟩
  | 107 => ⟨S4608x1024, .i32⟩
  | 108 => ⟨S_, .f32⟩
  | 109 => ⟨S_, .i32⟩
  | 110 => ⟨S4608, .f32⟩
  | 111 => ⟨S4608, .i32⟩
  | 112 => ⟨S_, .i32⟩
  | 113 => ⟨S4608, .i32⟩
  | 114 => ⟨S4608, .i1⟩
  | 115 => ⟨S_, .i32⟩
  | 116 => ⟨S4608, .i32⟩
  | 117 => ⟨S4608, .i32⟩
  | 118 => ⟨S4608, .i32⟩
  | 119 => ⟨S4608x1, .i32⟩
  | 120 => ⟨S1, .i32⟩
  | 121 => ⟨S_, .i32⟩
  | 122 => ⟨S4608x1, .i32⟩
  | 123 => ⟨S4608x1, .i1⟩
  | 124 => ⟨S1x1, .i32⟩
  | 125 => ⟨S4608x1, .i32⟩
  | 126 => ⟨S4608x1, .i1⟩
  | 127 => ⟨S4608x1, .i1⟩
  | _ => ⟨S8x576x256, .f32⟩

abbrev hbmTy0_3 (i : Nat) : BufTy := match i % 128 with
  | 0 => ⟨S_, .i1⟩
  | 1 => ⟨S4608, .i1⟩
  | 2 => ⟨S4608x256, .f32⟩
  | 3 => ⟨S4608x256, .i1⟩
  | 4 => ⟨S_, .f32⟩
  | 5 => ⟨S4608x256, .f32⟩
  | 6 => ⟨S4608x256, .f32⟩
  | 7 => ⟨S4608x256, .f32⟩
  | 8 => ⟨S4608x256, .f32⟩
  | 9 => ⟨S_, .f32⟩
  | 10 => ⟨S_, .f32⟩
  | 11 => ⟨S_, .f32⟩
  | 12 => ⟨S_, .f32⟩
  | 13 => ⟨S4608x256, .f32⟩
  | 14 => ⟨S_, .f32⟩
  | 15 => ⟨S4608, .f32⟩
  | 16 => ⟨S4608x1, .f32⟩
  | 17 => ⟨S4608x1, .f32⟩
  | 18 => ⟨S4608x256, .f32⟩
  | 19 => ⟨S_, .f32⟩
  | 20 => ⟨S4608, .f32⟩
  | 21 => ⟨S4608x1, .f32⟩
  | 22 => ⟨S4608x1, .f32⟩
  | 23 => ⟨S_, .f32⟩
  | 24 => ⟨S4608x1, .f32⟩
  | 25 => ⟨S4608x1, .f32⟩
  | 26 => ⟨S4608x256, .f32⟩
  | 27 => ⟨S4608x256, .f32⟩
  | 28 => ⟨S_, .f32⟩
  | 29 => ⟨S4608x1, .f32⟩
  | 30 => ⟨S4608x1, .f32⟩
  | 31 => ⟨S4608x256, .f32⟩
  | 32 => ⟨S4608x256, .f32⟩
  | 33 => ⟨S4608x256, .f32⟩
  | 34 => ⟨S4608x256, .f32⟩
  | 35 => ⟨S4608x256, .f32⟩
  | 36 => ⟨S_, .f32⟩
  | 37 => ⟨S4608, .f32⟩
  | 38 => ⟨S4608x1, .f32⟩
  | 39 => ⟨S4608x1, .f32⟩
  | 40 => ⟨S4608x256, .f32⟩
  | 41 => ⟨S4608x256, .f32⟩
  | 42 => ⟨S4608x256, .f32⟩
  | 43 => ⟨S_, .f32⟩
  | 44 => ⟨S4608, .f32⟩
  | 45 => ⟨S4608x1, .f32⟩
  | 46 => ⟨S4608x256, .f32⟩
  | 47 => ⟨S_, .f32⟩
  | 48 => ⟨S4608, .f32⟩
  | 49 => ⟨S4608x1, .f32⟩
  | 50 => ⟨S_, .f32⟩
  | 51 => ⟨S4608x1, .f32⟩
  | 52 => ⟨S4608x1, .f32⟩
  | 53 => ⟨S4608x256, .f32⟩
  | 54 => ⟨S4608x256, .f32⟩
  | 55 => ⟨S4608x256, .f32⟩
  | 56 => ⟨S_, .f32⟩
  | 57 => ⟨S4608x1, .f32⟩
  | 58 => ⟨S4608x1, .f32⟩
  | 59 => ⟨S4608x256, .f32⟩
  | 60 => ⟨S4608x256, .f32⟩
  | 61 => ⟨S4608x256, .f32⟩
  | 62 => ⟨S_, .f32⟩
  | 63 => ⟨S4608x1, .f32⟩
  | 64 => ⟨S4608x1, .f32⟩
  | 65 => ⟨S4608x1, .f32⟩
  | 66 => ⟨S4608x256, .f32⟩
  | 67 => ⟨S4608x256, .f32⟩
  | 68 => ⟨S8x576x256, .f32⟩
  | 69 => ⟨S8x576x256, .f32⟩
  | 70 => ⟨S8x576x256, .f32⟩
  | 71 => ⟨S8x576, .i32⟩
  | 72 => ⟨S8x576x1, .i32⟩
  | 73 => ⟨S8x576x1, .i32⟩
  | 74 => ⟨S8x576x1, .i32⟩
  | 75 => ⟨S8x576x1, .i32⟩
  | 76 => ⟨S8x576x4, .i32⟩
  | 77 => ⟨S1, .f32⟩
  | 78 => ⟨S1, .f32⟩
  | 79 => ⟨S1, .f32⟩
  | 80 => ⟨S1, .f32⟩
  | 81 => ⟨S4, .f32⟩
  | 82 => ⟨S4608x256, .f32⟩
  | 83 => ⟨S4608x4, .i32⟩
  | 84 => ⟨S1x4, .f32⟩
  | _ => ⟨S8x576x256, .f32⟩

abbrev hbmTy (i : Nat) : BufTy := match i / 128 with
  | 0 => hbmTy0_0 i
  | 1 => hbmTy0_1 i
  | 2 => hbmTy0_2 i
  | 3 => hbmTy0_3 i
  | _ => ⟨S8x576x256, .f32⟩

abbrev bufTy : (tb : Table) → Fin (tcTables nBuf tb) → BufTy
  | .hbm, ⟨i, _⟩ => hbmTy i
  | _, _ => ⟨S8x576x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_call0_v0 : Ref sig .tc := ⟨.hbm, 24, rfl⟩
abbrev main_call0_cst : Ref sig .tc := ⟨.hbm, 25, rfl⟩
abbrev main_call0_c : Ref sig .tc := ⟨.hbm, 26, rfl⟩
abbrev main_call0_v1_0 : Ref sig .tc := ⟨.hbm, 27, rfl⟩
abbrev main_v18 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_c_1 : Ref sig .tc := ⟨.hbm, 37, rfl⟩
abbrev main_call1_c_2 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_3 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_call1_cst : Ref sig .tc := ⟨.hbm, 49, rfl⟩
abbrev main_call1_v15 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_cst_3 : Ref sig .tc := ⟨.hbm, 54, rfl⟩
abbrev main_v22 : Ref sig .tc := ⟨.hbm, 55, rfl⟩
abbrev main_cst_4 : Ref sig .tc := ⟨.hbm, 56, rfl⟩
abbrev main_v23 : Ref sig .tc := ⟨.hbm, 57, rfl⟩
abbrev main_call2_v0 : Ref sig .tc := ⟨.hbm, 58, rfl⟩
abbrev main_call2_cst : Ref sig .tc := ⟨.hbm, 59, rfl⟩
abbrev main_call2_v1 : Ref sig .tc := ⟨.hbm, 60, rfl⟩
abbrev main_call2_v2 : Ref sig .tc := ⟨.hbm, 61, rfl⟩
abbrev main_v24 : Ref sig .tc := ⟨.hbm, 62, rfl⟩
abbrev main_call3_v0 : Ref sig .tc := ⟨.hbm, 63, rfl⟩
abbrev main_call3_cst : Ref sig .tc := ⟨.hbm, 64, rfl⟩
abbrev main_call3_v1 : Ref sig .tc := ⟨.hbm, 65, rfl⟩
abbrev main_call3_v2 : Ref sig .tc := ⟨.hbm, 66, rfl⟩
abbrev main_v25 : Ref sig .tc := ⟨.hbm, 67, rfl⟩
abbrev main_cst_5 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_cst_6 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_call4_v0 : Ref sig .tc := ⟨.hbm, 80, rfl⟩
abbrev main_call4_cst : Ref sig .tc := ⟨.hbm, 81, rfl⟩
abbrev main_call4_v1 : Ref sig .tc := ⟨.hbm, 82, rfl⟩
abbrev main_call4_v2 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_cst_7 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_cst_8 : Ref sig .tc := ⟨.hbm, 92, rfl⟩
abbrev main_v43 : Ref sig .tc := ⟨.hbm, 93, rfl⟩
abbrev main_v44 : Ref sig .tc := ⟨.hbm, 94, rfl⟩
abbrev main_cst_9 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_cst_10 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_cst_11 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_cst_12 : Ref sig .tc := ⟨.hbm, 121, rfl⟩
abbrev main_v68 : Ref sig .tc := ⟨.hbm, 122, rfl⟩
abbrev main_v69 : Ref sig .tc := ⟨.hbm, 123, rfl⟩
abbrev main_cst_13 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_cst_14 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_call5_v0 : Ref sig .tc := ⟨.hbm, 137, rfl⟩
abbrev main_call5_cst : Ref sig .tc := ⟨.hbm, 138, rfl⟩
abbrev main_call5_c : Ref sig .tc := ⟨.hbm, 139, rfl⟩
abbrev main_call5_v1_0 : Ref sig .tc := ⟨.hbm, 140, rfl⟩
abbrev main_v81 : Ref sig .tc := ⟨.hbm, 141, rfl⟩
abbrev main_call6_c : Ref sig .tc := ⟨.hbm, 142, rfl⟩
abbrev main_call6_v0 : Ref sig .tc := ⟨.hbm, 143, rfl⟩
abbrev main_call6_v1 : Ref sig .tc := ⟨.hbm, 144, rfl⟩
abbrev main_call6_c_0 : Ref sig .tc := ⟨.hbm, 145, rfl⟩
abbrev main_call6_v2 : Ref sig .tc := ⟨.hbm, 146, rfl⟩
abbrev main_call6_v3 : Ref sig .tc := ⟨.hbm, 147, rfl⟩
abbrev main_call6_v4 : Ref sig .tc := ⟨.hbm, 148, rfl⟩
abbrev main_call6_v5 : Ref sig .tc := ⟨.hbm, 149, rfl⟩
abbrev main_call6_c_1 : Ref sig .tc := ⟨.hbm, 150, rfl⟩
abbrev main_call6_c_2 : Ref sig .tc := ⟨.hbm, 151, rfl⟩
abbrev main_call6_v6 : Ref sig .tc := ⟨.hbm, 152, rfl⟩
abbrev main_call6_v7 : Ref sig .tc := ⟨.hbm, 153, rfl⟩
abbrev main_call6_v8 : Ref sig .tc := ⟨.hbm, 154, rfl⟩
abbrev main_call6_v9 : Ref sig .tc := ⟨.hbm, 155, rfl⟩
abbrev main_call6_v10 : Ref sig .tc := ⟨.hbm, 156, rfl⟩
abbrev main_call6_v11 : Ref sig .tc := ⟨.hbm, 157, rfl⟩
abbrev main_call6_c_3 : Ref sig .tc := ⟨.hbm, 158, rfl⟩
abbrev main_call6_v12 : Ref sig .tc := ⟨.hbm, 159, rfl⟩
abbrev main_call6_v13 : Ref sig .tc := ⟨.hbm, 160, rfl⟩
abbrev main_call6_v14 : Ref sig .tc := ⟨.hbm, 161, rfl⟩
abbrev main_call6_cst : Ref sig .tc := ⟨.hbm, 162, rfl⟩
abbrev main_call6_v15 : Ref sig .tc := ⟨.hbm, 163, rfl⟩
abbrev main_v82 : Ref sig .tc := ⟨.hbm, 164, rfl⟩
abbrev main_v83 : Ref sig .tc := ⟨.hbm, 165, rfl⟩
abbrev main_v84 : Ref sig .tc := ⟨.hbm, 166, rfl⟩
abbrev main_cst_15 : Ref sig .tc := ⟨.hbm, 167, rfl⟩
abbrev main_v85 : Ref sig .tc := ⟨.hbm, 168, rfl⟩
abbrev main_cst_16 : Ref sig .tc := ⟨.hbm, 169, rfl⟩
abbrev main_v86 : Ref sig .tc := ⟨.hbm, 170, rfl⟩
abbrev main_call7_v0 : Ref sig .tc := ⟨.hbm, 171, rfl⟩
abbrev main_call7_cst : Ref sig .tc := ⟨.hbm, 172, rfl⟩
abbrev main_call7_v1 : Ref sig .tc := ⟨.hbm, 173, rfl⟩
abbrev main_call7_v2 : Ref sig .tc := ⟨.hbm, 174, rfl⟩
abbrev main_v87 : Ref sig .tc := ⟨.hbm, 175, rfl⟩
abbrev main_call8_v0 : Ref sig .tc := ⟨.hbm, 176, rfl⟩
abbrev main_call8_cst : Ref sig .tc := ⟨.hbm, 177, rfl⟩
abbrev main_call8_v1 : Ref sig .tc := ⟨.hbm, 178, rfl⟩
abbrev main_call8_v2 : Ref sig .tc := ⟨.hbm, 179, rfl⟩
abbrev main_v88 : Ref sig .tc := ⟨.hbm, 180, rfl⟩
abbrev main_cst_17 : Ref sig .tc := ⟨.hbm, 181, rfl⟩
abbrev main_v89 : Ref sig .tc := ⟨.hbm, 182, rfl⟩
abbrev main_v90 : Ref sig .tc := ⟨.hbm, 183, rfl⟩
abbrev main_v91 : Ref sig .tc := ⟨.hbm, 184, rfl⟩
abbrev main_v92 : Ref sig .tc := ⟨.hbm, 185, rfl⟩
abbrev main_cst_18 : Ref sig .tc := ⟨.hbm, 186, rfl⟩
abbrev main_v93 : Ref sig .tc := ⟨.hbm, 187, rfl⟩
abbrev main_v94 : Ref sig .tc := ⟨.hbm, 188, rfl⟩
abbrev main_v95 : Ref sig .tc := ⟨.hbm, 189, rfl⟩
abbrev main_v96 : Ref sig .tc := ⟨.hbm, 190, rfl⟩
abbrev main_v97 : Ref sig .tc := ⟨.hbm, 191, rfl⟩
abbrev main_v98 : Ref sig .tc := ⟨.hbm, 192, rfl⟩
abbrev main_call9_v0 : Ref sig .tc := ⟨.hbm, 193, rfl⟩
abbrev main_call9_cst : Ref sig .tc := ⟨.hbm, 194, rfl⟩
abbrev main_call9_v1 : Ref sig .tc := ⟨.hbm, 195, rfl⟩
abbrev main_call9_v2 : Ref sig .tc := ⟨.hbm, 196, rfl⟩
abbrev main_v99 : Ref sig .tc := ⟨.hbm, 197, rfl⟩
abbrev main_v100 : Ref sig .tc := ⟨.hbm, 198, rfl⟩
abbrev main_v101 : Ref sig .tc := ⟨.hbm, 199, rfl⟩
abbrev main_v102 : Ref sig .tc := ⟨.hbm, 200, rfl⟩
abbrev main_cst_19 : Ref sig .tc := ⟨.hbm, 201, rfl⟩
abbrev main_v103 : Ref sig .tc := ⟨.hbm, 202, rfl⟩
abbrev main_v104 : Ref sig .tc := ⟨.hbm, 203, rfl⟩
abbrev main_v105 : Ref sig .tc := ⟨.hbm, 204, rfl⟩
abbrev main_cst_20 : Ref sig .tc := ⟨.hbm, 205, rfl⟩
abbrev main_v106 : Ref sig .tc := ⟨.hbm, 206, rfl⟩
abbrev main_v107 : Ref sig .tc := ⟨.hbm, 207, rfl⟩
abbrev main_cst_21 : Ref sig .tc := ⟨.hbm, 208, rfl⟩
abbrev main_v108 : Ref sig .tc := ⟨.hbm, 209, rfl⟩
abbrev main_v109 : Ref sig .tc := ⟨.hbm, 210, rfl⟩
abbrev main_v110 : Ref sig .tc := ⟨.hbm, 211, rfl⟩
abbrev main_v111 : Ref sig .tc := ⟨.hbm, 212, rfl⟩
abbrev main_v112 : Ref sig .tc := ⟨.hbm, 213, rfl⟩
abbrev main_cst_22 : Ref sig .tc := ⟨.hbm, 214, rfl⟩
abbrev main_v113 : Ref sig .tc := ⟨.hbm, 215, rfl⟩
abbrev main_v114 : Ref sig .tc := ⟨.hbm, 216, rfl⟩
abbrev main_v115 : Ref sig .tc := ⟨.hbm, 217, rfl⟩
abbrev main_v116 : Ref sig .tc := ⟨.hbm, 218, rfl⟩
abbrev main_v117 : Ref sig .tc := ⟨.hbm, 219, rfl⟩
abbrev main_cst_23 : Ref sig .tc := ⟨.hbm, 220, rfl⟩
abbrev main_v118 : Ref sig .tc := ⟨.hbm, 221, rfl⟩
abbrev main_v119 : Ref sig .tc := ⟨.hbm, 222, rfl⟩
abbrev main_v120 : Ref sig .tc := ⟨.hbm, 223, rfl⟩
abbrev main_v121 : Ref sig .tc := ⟨.hbm, 224, rfl⟩
abbrev main_v122 : Ref sig .tc := ⟨.hbm, 225, rfl⟩
abbrev main_v123 : Ref sig .tc := ⟨.hbm, 226, rfl⟩
abbrev main_v124 : Ref sig .tc := ⟨.hbm, 227, rfl⟩
abbrev main_v125 : Ref sig .tc := ⟨.hbm, 228, rfl⟩
abbrev main_v126 : Ref sig .tc := ⟨.hbm, 229, rfl⟩
abbrev main_v127 : Ref sig .tc := ⟨.hbm, 230, rfl⟩
abbrev main_v128 : Ref sig .tc := ⟨.hbm, 231, rfl⟩
abbrev main_v129 : Ref sig .tc := ⟨.hbm, 232, rfl⟩
abbrev main_v130 : Ref sig .tc := ⟨.hbm, 233, rfl⟩
abbrev main_cst_24 : Ref sig .tc := ⟨.hbm, 234, rfl⟩
abbrev main_v131 : Ref sig .tc := ⟨.hbm, 235, rfl⟩
abbrev main_v132 : Ref sig .tc := ⟨.hbm, 236, rfl⟩
abbrev main_cst_25 : Ref sig .tc := ⟨.hbm, 237, rfl⟩
abbrev main_v133 : Ref sig .tc := ⟨.hbm, 238, rfl⟩
abbrev main_v134 : Ref sig .tc := ⟨.hbm, 239, rfl⟩
abbrev main_v135 : Ref sig .tc := ⟨.hbm, 240, rfl⟩
abbrev main_v136 : Ref sig .tc := ⟨.hbm, 241, rfl⟩
abbrev main_v137 : Ref sig .tc := ⟨.hbm, 242, rfl⟩
abbrev main_v138 : Ref sig .tc := ⟨.hbm, 243, rfl⟩
abbrev main_v139 : Ref sig .tc := ⟨.hbm, 244, rfl⟩
abbrev main_cst_26 : Ref sig .tc := ⟨.hbm, 245, rfl⟩
abbrev main_v140 : Ref sig .tc := ⟨.hbm, 246, rfl⟩
abbrev main_v141 : Ref sig .tc := ⟨.hbm, 247, rfl⟩
abbrev main_v142 : Ref sig .tc := ⟨.hbm, 248, rfl⟩
abbrev main_v143 : Ref sig .tc := ⟨.hbm, 249, rfl⟩
abbrev main_call10_v0 : Ref sig .tc := ⟨.hbm, 250, rfl⟩
abbrev main_call10_cst : Ref sig .tc := ⟨.hbm, 251, rfl⟩
abbrev main_call10_c : Ref sig .tc := ⟨.hbm, 252, rfl⟩
abbrev main_call10_v1_0 : Ref sig .tc := ⟨.hbm, 253, rfl⟩
abbrev main_v144 : Ref sig .tc := ⟨.hbm, 254, rfl⟩
abbrev main_call11_c : Ref sig .tc := ⟨.hbm, 255, rfl⟩
abbrev main_call11_v0 : Ref sig .tc := ⟨.hbm, 256, rfl⟩
abbrev main_call11_v1 : Ref sig .tc := ⟨.hbm, 257, rfl⟩
abbrev main_call11_c_0 : Ref sig .tc := ⟨.hbm, 258, rfl⟩
abbrev main_call11_v2 : Ref sig .tc := ⟨.hbm, 259, rfl⟩
abbrev main_call11_v3 : Ref sig .tc := ⟨.hbm, 260, rfl⟩
abbrev main_call11_v4 : Ref sig .tc := ⟨.hbm, 261, rfl⟩
abbrev main_call11_v5 : Ref sig .tc := ⟨.hbm, 262, rfl⟩
abbrev main_call11_c_1 : Ref sig .tc := ⟨.hbm, 263, rfl⟩
abbrev main_call11_c_2 : Ref sig .tc := ⟨.hbm, 264, rfl⟩
abbrev main_call11_v6 : Ref sig .tc := ⟨.hbm, 265, rfl⟩
abbrev main_call11_v7 : Ref sig .tc := ⟨.hbm, 266, rfl⟩
abbrev main_call11_v8 : Ref sig .tc := ⟨.hbm, 267, rfl⟩
abbrev main_call11_v9 : Ref sig .tc := ⟨.hbm, 268, rfl⟩
abbrev main_call11_v10 : Ref sig .tc := ⟨.hbm, 269, rfl⟩
abbrev main_call11_v11 : Ref sig .tc := ⟨.hbm, 270, rfl⟩
abbrev main_call11_c_3 : Ref sig .tc := ⟨.hbm, 271, rfl⟩
abbrev main_call11_v12 : Ref sig .tc := ⟨.hbm, 272, rfl⟩
abbrev main_call11_v13 : Ref sig .tc := ⟨.hbm, 273, rfl⟩
abbrev main_call11_v14 : Ref sig .tc := ⟨.hbm, 274, rfl⟩
abbrev main_call11_cst : Ref sig .tc := ⟨.hbm, 275, rfl⟩
abbrev main_call11_v15 : Ref sig .tc := ⟨.hbm, 276, rfl⟩
abbrev main_v145 : Ref sig .tc := ⟨.hbm, 277, rfl⟩
abbrev main_v146 : Ref sig .tc := ⟨.hbm, 278, rfl⟩
abbrev main_v147 : Ref sig .tc := ⟨.hbm, 279, rfl⟩
abbrev main_cst_27 : Ref sig .tc := ⟨.hbm, 280, rfl⟩
abbrev main_v148 : Ref sig .tc := ⟨.hbm, 281, rfl⟩
abbrev main_cst_28 : Ref sig .tc := ⟨.hbm, 282, rfl⟩
abbrev main_v149 : Ref sig .tc := ⟨.hbm, 283, rfl⟩
abbrev main_call12_v0 : Ref sig .tc := ⟨.hbm, 284, rfl⟩
abbrev main_call12_cst : Ref sig .tc := ⟨.hbm, 285, rfl⟩
abbrev main_call12_v1 : Ref sig .tc := ⟨.hbm, 286, rfl⟩
abbrev main_call12_v2 : Ref sig .tc := ⟨.hbm, 287, rfl⟩
abbrev main_v150 : Ref sig .tc := ⟨.hbm, 288, rfl⟩
abbrev main_call13_v0 : Ref sig .tc := ⟨.hbm, 289, rfl⟩
abbrev main_call13_cst : Ref sig .tc := ⟨.hbm, 290, rfl⟩
abbrev main_call13_v1 : Ref sig .tc := ⟨.hbm, 291, rfl⟩
abbrev main_call13_v2 : Ref sig .tc := ⟨.hbm, 292, rfl⟩
abbrev main_v151 : Ref sig .tc := ⟨.hbm, 293, rfl⟩
abbrev main_cst_29 : Ref sig .tc := ⟨.hbm, 294, rfl⟩
abbrev main_v152 : Ref sig .tc := ⟨.hbm, 295, rfl⟩
abbrev main_v153 : Ref sig .tc := ⟨.hbm, 296, rfl⟩
abbrev main_v154 : Ref sig .tc := ⟨.hbm, 297, rfl⟩
abbrev main_v155 : Ref sig .tc := ⟨.hbm, 298, rfl⟩
abbrev main_cst_30 : Ref sig .tc := ⟨.hbm, 299, rfl⟩
abbrev main_v156 : Ref sig .tc := ⟨.hbm, 300, rfl⟩
abbrev main_v157 : Ref sig .tc := ⟨.hbm, 301, rfl⟩
abbrev main_v158 : Ref sig .tc := ⟨.hbm, 302, rfl⟩
abbrev main_v159 : Ref sig .tc := ⟨.hbm, 303, rfl⟩
abbrev main_v160 : Ref sig .tc := ⟨.hbm, 304, rfl⟩
abbrev main_v161 : Ref sig .tc := ⟨.hbm, 305, rfl⟩
abbrev main_call14_v0 : Ref sig .tc := ⟨.hbm, 306, rfl⟩
abbrev main_call14_cst : Ref sig .tc := ⟨.hbm, 307, rfl⟩
abbrev main_call14_v1 : Ref sig .tc := ⟨.hbm, 308, rfl⟩
abbrev main_call14_v2 : Ref sig .tc := ⟨.hbm, 309, rfl⟩
abbrev main_v162 : Ref sig .tc := ⟨.hbm, 310, rfl⟩
abbrev main_v163 : Ref sig .tc := ⟨.hbm, 311, rfl⟩
abbrev main_v164 : Ref sig .tc := ⟨.hbm, 312, rfl⟩
abbrev main_v165 : Ref sig .tc := ⟨.hbm, 313, rfl⟩
abbrev main_cst_31 : Ref sig .tc := ⟨.hbm, 314, rfl⟩
abbrev main_v166 : Ref sig .tc := ⟨.hbm, 315, rfl⟩
abbrev main_v167 : Ref sig .tc := ⟨.hbm, 316, rfl⟩
abbrev main_v168 : Ref sig .tc := ⟨.hbm, 317, rfl⟩
abbrev main_cst_32 : Ref sig .tc := ⟨.hbm, 318, rfl⟩
abbrev main_v169 : Ref sig .tc := ⟨.hbm, 319, rfl⟩
abbrev main_v170 : Ref sig .tc := ⟨.hbm, 320, rfl⟩
abbrev main_cst_33 : Ref sig .tc := ⟨.hbm, 321, rfl⟩
abbrev main_v171 : Ref sig .tc := ⟨.hbm, 322, rfl⟩
abbrev main_v172 : Ref sig .tc := ⟨.hbm, 323, rfl⟩
abbrev main_v173 : Ref sig .tc := ⟨.hbm, 324, rfl⟩
abbrev main_v174 : Ref sig .tc := ⟨.hbm, 325, rfl⟩
abbrev main_v175 : Ref sig .tc := ⟨.hbm, 326, rfl⟩
abbrev main_cst_34 : Ref sig .tc := ⟨.hbm, 327, rfl⟩
abbrev main_v176 : Ref sig .tc := ⟨.hbm, 328, rfl⟩
abbrev main_v177 : Ref sig .tc := ⟨.hbm, 329, rfl⟩
abbrev main_v178 : Ref sig .tc := ⟨.hbm, 330, rfl⟩
abbrev main_v179 : Ref sig .tc := ⟨.hbm, 331, rfl⟩
abbrev main_v180 : Ref sig .tc := ⟨.hbm, 332, rfl⟩
abbrev main_cst_35 : Ref sig .tc := ⟨.hbm, 333, rfl⟩
abbrev main_v181 : Ref sig .tc := ⟨.hbm, 334, rfl⟩
abbrev main_v182 : Ref sig .tc := ⟨.hbm, 335, rfl⟩
abbrev main_v183 : Ref sig .tc := ⟨.hbm, 336, rfl⟩
abbrev main_v184 : Ref sig .tc := ⟨.hbm, 337, rfl⟩
abbrev main_v185 : Ref sig .tc := ⟨.hbm, 338, rfl⟩
abbrev main_v186 : Ref sig .tc := ⟨.hbm, 339, rfl⟩
abbrev main_v187 : Ref sig .tc := ⟨.hbm, 340, rfl⟩
abbrev main_v188 : Ref sig .tc := ⟨.hbm, 341, rfl⟩
abbrev main_v189 : Ref sig .tc := ⟨.hbm, 342, rfl⟩
abbrev main_v190 : Ref sig .tc := ⟨.hbm, 343, rfl⟩
abbrev main_v191 : Ref sig .tc := ⟨.hbm, 344, rfl⟩
abbrev main_v192 : Ref sig .tc := ⟨.hbm, 345, rfl⟩
abbrev main_v193 : Ref sig .tc := ⟨.hbm, 346, rfl⟩
abbrev main_cst_36 : Ref sig .tc := ⟨.hbm, 347, rfl⟩
abbrev main_v194 : Ref sig .tc := ⟨.hbm, 348, rfl⟩
abbrev main_v195 : Ref sig .tc := ⟨.hbm, 349, rfl⟩
abbrev main_cst_37 : Ref sig .tc := ⟨.hbm, 350, rfl⟩
abbrev main_v196 : Ref sig .tc := ⟨.hbm, 351, rfl⟩
abbrev main_v197 : Ref sig .tc := ⟨.hbm, 352, rfl⟩
abbrev main_v198 : Ref sig .tc := ⟨.hbm, 353, rfl⟩
abbrev main_v199 : Ref sig .tc := ⟨.hbm, 354, rfl⟩
abbrev main_v200 : Ref sig .tc := ⟨.hbm, 355, rfl⟩
abbrev main_v201 : Ref sig .tc := ⟨.hbm, 356, rfl⟩
abbrev main_v202 : Ref sig .tc := ⟨.hbm, 357, rfl⟩
abbrev main_cst_38 : Ref sig .tc := ⟨.hbm, 358, rfl⟩
abbrev main_v203 : Ref sig .tc := ⟨.hbm, 359, rfl⟩
abbrev main_v204 : Ref sig .tc := ⟨.hbm, 360, rfl⟩
abbrev main_v205 : Ref sig .tc := ⟨.hbm, 361, rfl⟩
abbrev main_v206 : Ref sig .tc := ⟨.hbm, 362, rfl⟩
abbrev main_call15_v0 : Ref sig .tc := ⟨.hbm, 363, rfl⟩
abbrev main_call15_cst : Ref sig .tc := ⟨.hbm, 364, rfl⟩
abbrev main_call15_c : Ref sig .tc := ⟨.hbm, 365, rfl⟩
abbrev main_call15_v1_0 : Ref sig .tc := ⟨.hbm, 366, rfl⟩
abbrev main_v207 : Ref sig .tc := ⟨.hbm, 367, rfl⟩
abbrev main_call16_c : Ref sig .tc := ⟨.hbm, 368, rfl⟩
abbrev main_call16_v0 : Ref sig .tc := ⟨.hbm, 369, rfl⟩
abbrev main_call16_v1 : Ref sig .tc := ⟨.hbm, 370, rfl⟩
abbrev main_call16_c_0 : Ref sig .tc := ⟨.hbm, 371, rfl⟩
abbrev main_call16_v2 : Ref sig .tc := ⟨.hbm, 372, rfl⟩
abbrev main_call16_v3 : Ref sig .tc := ⟨.hbm, 373, rfl⟩
abbrev main_call16_v4 : Ref sig .tc := ⟨.hbm, 374, rfl⟩
abbrev main_call16_v5 : Ref sig .tc := ⟨.hbm, 375, rfl⟩
abbrev main_call16_c_1 : Ref sig .tc := ⟨.hbm, 376, rfl⟩
abbrev main_call16_c_2 : Ref sig .tc := ⟨.hbm, 377, rfl⟩
abbrev main_call16_v6 : Ref sig .tc := ⟨.hbm, 378, rfl⟩
abbrev main_call16_v7 : Ref sig .tc := ⟨.hbm, 379, rfl⟩
abbrev main_call16_v8 : Ref sig .tc := ⟨.hbm, 380, rfl⟩
abbrev main_call16_v9 : Ref sig .tc := ⟨.hbm, 381, rfl⟩
abbrev main_call16_v10 : Ref sig .tc := ⟨.hbm, 382, rfl⟩
abbrev main_call16_v11 : Ref sig .tc := ⟨.hbm, 383, rfl⟩
abbrev main_call16_c_3 : Ref sig .tc := ⟨.hbm, 384, rfl⟩
abbrev main_call16_v12 : Ref sig .tc := ⟨.hbm, 385, rfl⟩
abbrev main_call16_v13 : Ref sig .tc := ⟨.hbm, 386, rfl⟩
abbrev main_call16_v14 : Ref sig .tc := ⟨.hbm, 387, rfl⟩
abbrev main_call16_cst : Ref sig .tc := ⟨.hbm, 388, rfl⟩
abbrev main_call16_v15 : Ref sig .tc := ⟨.hbm, 389, rfl⟩
abbrev main_v208 : Ref sig .tc := ⟨.hbm, 390, rfl⟩
abbrev main_v209 : Ref sig .tc := ⟨.hbm, 391, rfl⟩
abbrev main_v210 : Ref sig .tc := ⟨.hbm, 392, rfl⟩
abbrev main_cst_39 : Ref sig .tc := ⟨.hbm, 393, rfl⟩
abbrev main_v211 : Ref sig .tc := ⟨.hbm, 394, rfl⟩
abbrev main_cst_40 : Ref sig .tc := ⟨.hbm, 395, rfl⟩
abbrev main_v212 : Ref sig .tc := ⟨.hbm, 396, rfl⟩
abbrev main_call17_v0 : Ref sig .tc := ⟨.hbm, 397, rfl⟩
abbrev main_call17_cst : Ref sig .tc := ⟨.hbm, 398, rfl⟩
abbrev main_call17_v1 : Ref sig .tc := ⟨.hbm, 399, rfl⟩
abbrev main_call17_v2 : Ref sig .tc := ⟨.hbm, 400, rfl⟩
abbrev main_v213 : Ref sig .tc := ⟨.hbm, 401, rfl⟩
abbrev main_call18_v0 : Ref sig .tc := ⟨.hbm, 402, rfl⟩
abbrev main_call18_cst : Ref sig .tc := ⟨.hbm, 403, rfl⟩
abbrev main_call18_v1 : Ref sig .tc := ⟨.hbm, 404, rfl⟩
abbrev main_call18_v2 : Ref sig .tc := ⟨.hbm, 405, rfl⟩
abbrev main_v214 : Ref sig .tc := ⟨.hbm, 406, rfl⟩
abbrev main_cst_41 : Ref sig .tc := ⟨.hbm, 407, rfl⟩
abbrev main_v215 : Ref sig .tc := ⟨.hbm, 408, rfl⟩
abbrev main_v216 : Ref sig .tc := ⟨.hbm, 409, rfl⟩
abbrev main_v217 : Ref sig .tc := ⟨.hbm, 410, rfl⟩
abbrev main_v218 : Ref sig .tc := ⟨.hbm, 411, rfl⟩
abbrev main_cst_42 : Ref sig .tc := ⟨.hbm, 412, rfl⟩
abbrev main_v219 : Ref sig .tc := ⟨.hbm, 413, rfl⟩
abbrev main_v220 : Ref sig .tc := ⟨.hbm, 414, rfl⟩
abbrev main_v221 : Ref sig .tc := ⟨.hbm, 415, rfl⟩
abbrev main_v222 : Ref sig .tc := ⟨.hbm, 416, rfl⟩
abbrev main_v223 : Ref sig .tc := ⟨.hbm, 417, rfl⟩
abbrev main_v224 : Ref sig .tc := ⟨.hbm, 418, rfl⟩
abbrev main_call19_v0 : Ref sig .tc := ⟨.hbm, 419, rfl⟩
abbrev main_call19_cst : Ref sig .tc := ⟨.hbm, 420, rfl⟩
abbrev main_call19_v1 : Ref sig .tc := ⟨.hbm, 421, rfl⟩
abbrev main_call19_v2 : Ref sig .tc := ⟨.hbm, 422, rfl⟩
abbrev main_v225 : Ref sig .tc := ⟨.hbm, 423, rfl⟩
abbrev main_v226 : Ref sig .tc := ⟨.hbm, 424, rfl⟩
abbrev main_v227 : Ref sig .tc := ⟨.hbm, 425, rfl⟩
abbrev main_v228 : Ref sig .tc := ⟨.hbm, 426, rfl⟩
abbrev main_cst_43 : Ref sig .tc := ⟨.hbm, 427, rfl⟩
abbrev main_v229 : Ref sig .tc := ⟨.hbm, 428, rfl⟩
abbrev main_v230 : Ref sig .tc := ⟨.hbm, 429, rfl⟩
abbrev main_v231 : Ref sig .tc := ⟨.hbm, 430, rfl⟩
abbrev main_cst_44 : Ref sig .tc := ⟨.hbm, 431, rfl⟩
abbrev main_v232 : Ref sig .tc := ⟨.hbm, 432, rfl⟩
abbrev main_v233 : Ref sig .tc := ⟨.hbm, 433, rfl⟩
abbrev main_cst_45 : Ref sig .tc := ⟨.hbm, 434, rfl⟩
abbrev main_v234 : Ref sig .tc := ⟨.hbm, 435, rfl⟩
abbrev main_v235 : Ref sig .tc := ⟨.hbm, 436, rfl⟩
abbrev main_v236 : Ref sig .tc := ⟨.hbm, 437, rfl⟩
abbrev main_v237 : Ref sig .tc := ⟨.hbm, 438, rfl⟩
abbrev main_v238 : Ref sig .tc := ⟨.hbm, 439, rfl⟩
abbrev main_cst_46 : Ref sig .tc := ⟨.hbm, 440, rfl⟩
abbrev main_v239 : Ref sig .tc := ⟨.hbm, 441, rfl⟩
abbrev main_v240 : Ref sig .tc := ⟨.hbm, 442, rfl⟩
abbrev main_v241 : Ref sig .tc := ⟨.hbm, 443, rfl⟩
abbrev main_v242 : Ref sig .tc := ⟨.hbm, 444, rfl⟩
abbrev main_v243 : Ref sig .tc := ⟨.hbm, 445, rfl⟩
abbrev main_cst_47 : Ref sig .tc := ⟨.hbm, 446, rfl⟩
abbrev main_v244 : Ref sig .tc := ⟨.hbm, 447, rfl⟩
abbrev main_v245 : Ref sig .tc := ⟨.hbm, 448, rfl⟩
abbrev main_v246 : Ref sig .tc := ⟨.hbm, 449, rfl⟩
abbrev main_v247 : Ref sig .tc := ⟨.hbm, 450, rfl⟩
abbrev main_v248 : Ref sig .tc := ⟨.hbm, 451, rfl⟩
abbrev main_v249 : Ref sig .tc := ⟨.hbm, 452, rfl⟩
abbrev main_v250 : Ref sig .tc := ⟨.hbm, 453, rfl⟩
abbrev main_v251 : Ref sig .tc := ⟨.hbm, 454, rfl⟩
abbrev main_v252 : Ref sig .tc := ⟨.hbm, 455, rfl⟩
abbrev main_v253 : Ref sig .tc := ⟨.hbm, 456, rfl⟩
abbrev main_v254 : Ref sig .tc := ⟨.hbm, 457, rfl⟩
abbrev main_v255 : Ref sig .tc := ⟨.hbm, 458, rfl⟩
abbrev main_v256 : Ref sig .tc := ⟨.hbm, 459, rfl⟩
abbrev main_v257 : Ref sig .tc := ⟨.hbm, 460, rfl⟩
abbrev main_v258 : Ref sig .tc := ⟨.hbm, 461, rfl⟩
abbrev main_v259 : Ref sig .tc := ⟨.hbm, 462, rfl⟩
abbrev main_v260 : Ref sig .tc := ⟨.hbm, 463, rfl⟩
abbrev main_v261 : Ref sig .tc := ⟨.hbm, 464, rfl⟩
abbrev main_v262 : Ref sig .tc := ⟨.hbm, 465, rfl⟩
abbrev main_v263 : Ref sig .tc := ⟨.hbm, 466, rfl⟩
abbrev main_v264 : Ref sig .tc := ⟨.hbm, 467, rfl⟩
abbrev main_v265 : Ref sig .tc := ⟨.hbm, 468, rfl⟩

abbrev nD : Nat := 1
abbrev τ : Topo := Topo.v7x

variable {F : FTy → Type} [FloatOps F]
-- ==== Proof.RefOps.lean ====
/- The host program of the reference as a list of pieces, each piece a short line of host operations over typed buffers,
   and the run of the program: every buffer ends at the contents that the whole line leaves in it. A piece keeps, next to its
   operations, the list of the buffers it writes, so that a buffer is read off the whole line at the one piece that writes it. -/
module

public import proofs.«01_k».proof.Proof.Gen.ReferenceIdeal
public import Idealize.ShloMosaic.Lib.StableHlo.Run
public import Idealize.ShloMosaic.Lib.Pipeline.Frame

@[expose] public section

noncomputable section

namespace Cert.ReferenceIdeal.Pieces

open Cert.ReferenceIdeal Cert.ReferenceIdeal.Gen Idealize.ShloMosaic Idealize.ShloMosaic.TcCoe Idealize.SL.Sem Idealize.ShloMosaic.StableHlo

variable {F : FTy → Type} [FloatOps F]

/-- A line of host operations with the buffers that it writes, in order. -/
structure Piece (F : FTy → Type) where
  /-- The operations. -/
  ops : List (HloOp τ sig (Elt F))
  /-- What each of them writes. -/
  outs : List (Ref sig .tc)
  /-- The list of buffers is right. -/
  writes_eq : ops.map HloOp.writes = outs.map fun r => {Proc.devRef (τ := τ) .tc r}
  /-- They touch buffers of the core only. -/
  sub : ops.Forall fun op => op.bufs ⊆ tcRefs τ sig
  /-- Each of them fixes its result. -/
  fresh_eq : ops.Forall fun op => op.fresh = ∅

/-- All the operations of some pieces, one piece after the other. -/
def line (ps : List (Piece F)) : List (HloOp τ sig (Elt F)) := ps.flatMap Piece.ops

/-- All the buffers that some pieces write. -/
def outsOf (ps : List (Piece F)) : List (Ref sig .tc) := ps.flatMap Piece.outs

theorem line_writes (ps : List (Piece F)) :
    (line ps).map HloOp.writes = (outsOf ps).map fun r => {Proc.devRef (τ := τ) .tc r} := by
  induction ps with
  | nil => rfl
  | cons p ps ih =>
    have h := p.writes_eq
    simp only [line, outsOf, List.flatMap_cons, List.map_append] at ih ⊢
    rw [h, ih]

theorem line_sub (ps : List (Piece F)) : (line ps).Forall fun op => op.bufs ⊆ tcRefs τ sig := by
  rw [List.forall_iff_forall_mem]
  intro op hop
  obtain ⟨p, -, hp⟩ := List.mem_flatMap.mp hop
  exact List.forall_iff_forall_mem.mp p.sub op hp

theorem line_fresh (ps : List (Piece F)) : ∀ op ∈ line ps, op.fresh = ∅ := by
  intro op hop
  obtain ⟨p, -, hp⟩ := List.mem_flatMap.mp hop
  exact List.forall_iff_forall_mem.mp p.fresh_eq op hp

/-- The contents after some pieces. -/
def thru (ps : List (Piece F)) (V : Valuation τ sig (Elt F)) : Valuation τ sig (Elt F) := after (line ps) V

theorem after_app : ∀ (l k : List (HloOp τ sig (Elt F))) (V : Valuation τ sig (Elt F)), after (l ++ k) V = after k (after l V)
  | [], _, _ => rfl
  | _ :: l, k, _ => after_app l k _

theorem thru_append (ps qs : List (Piece F)) (V : Valuation τ sig (Elt F)) : thru (ps ++ qs) V = thru qs (thru ps V) := by
  unfold thru line
  rw [List.flatMap_append, after_app]

/-- A buffer that no piece from the `j`-th on writes holds what the pieces before left. -/
theorem thru_keep (ps : List (Piece F)) (V : Valuation τ sig (Elt F)) (j : ℕ) (r : Ref sig .tc)
    (hr : r ∉ outsOf (ps.drop j)) :
    thru ps V (Proc.devRef .tc r) = thru (ps.take j) V (Proc.devRef .tc r) := by
  conv_lhs => rw [← List.take_append_drop j ps, thru_append]
  exact after_of_writes_sub _ _ (forall_writes_sub_of_map (line_writes _)) hr

/-- A buffer that no piece after the `j`-th writes is read at the `j`-th. -/
theorem thru_at (ps : List (Piece F)) (V : Valuation τ sig (Elt F)) (j : ℕ) (p : Piece F) (hp : ps[j]? = some p)
    (r : Ref sig .tc) (hr : r ∉ outsOf (ps.drop (j + 1))) :
    thru ps V (Proc.devRef .tc r) = after p.ops (thru (ps.take j) V) (Proc.devRef .tc r) := by
  rw [thru_keep ps V (j + 1) r hr]
  have h : ps.take (j + 1) = ps.take j ++ [p] := by
    rw [List.take_add_one, hp]; rfl
  rw [h, thru_append]
  unfold thru line
  rw [List.flatMap_singleton]

/-- The zero array that the quantized output starts from. -/
def zeroP (c : TRef sig ⟨S_, .f32⟩) (z : TRef sig ⟨S8x576x256, .f32⟩) : Piece F where
  ops := [
    TRef.nullary c (constant S_ .f32 0x00000000#32),
    TRef.unary c z (broadcastInDim S8x576x256 ![] bcast_S_S8x576x256)]
  outs := [c.ref, z.ref]
  writes_eq := rfl
  sub := ⟨nullary_bufs_sub .., unary_bufs_sub ..⟩
  fresh_eq := ⟨rfl, rfl⟩

/-- One codebook, and the residual as a table of rows. -/
def inP (cb : TRef sig ⟨S4x1024x256, .f32⟩) (s : TRef sig ⟨S1x1024x256, .f32⟩) (e : TRef sig ⟨S1024x256, .f32⟩) (r : TRef sig ⟨S8x576x256, .f32⟩) (x : TRef sig ⟨S4608x256, .f32⟩) (o : Fin 3 → ℕ) (h : S4x1024x256.Slices o S1x1024x256) : Piece F where
  ops := [
    TRef.unary cb s (fun v => extractStridedSlice S1x1024x256 o v h),
    TRef.reshape s e rfl shapeCasts_S1x1024x256_S1024x256,
    TRef.reshape r x rfl shapeCasts_S8x576x256_S4608x256]
  outs := [s.ref, e.ref, x.ref]
  writes_eq := rfl
  sub := ⟨unary_bufs_sub .., reshape_bufs_sub .., reshape_bufs_sub ..⟩
  fresh_eq := ⟨rfl, rfl, rfl⟩

/-- Squared distances of every row to every code. -/
def distP (x : TRef sig ⟨S4608x256, .f32⟩) (e : TRef sig ⟨S1024x256, .f32⟩) (v4 : TRef sig ⟨S4608x256, .f32⟩) (c0 : TRef sig ⟨S_, .f32⟩) (v5 : TRef sig ⟨S4608, .f32⟩) (v6 : TRef sig ⟨S4608x1, .f32⟩) (c1 : TRef sig ⟨S_, .f32⟩) (v7 : TRef sig ⟨S4608x256, .f32⟩) (v8 : TRef sig ⟨S4608x256, .f32⟩) (v9 : TRef sig ⟨S256x1024, .f32⟩) (v10 : TRef sig ⟨S4608x1024, .f32⟩) (v11 : TRef sig ⟨S4608x1024, .f32⟩) (v12 : TRef sig ⟨S4608x1024, .f32⟩) (v13 : TRef sig ⟨S1024x256, .f32⟩) (c2 : TRef sig ⟨S_, .f32⟩) (v14 : TRef sig ⟨S1024, .f32⟩) (v15 : TRef sig ⟨S1x1024, .f32⟩) (v16 : TRef sig ⟨S4608x1024, .f32⟩) (v17 : TRef sig ⟨S4608x1024, .f32⟩) : Piece F where
  ops := [
    TRef.binary x x v4 mulf,
    TRef.nullary c0 (constant S_ .f32 0x00000000#32),
    TRef.binary v4 c0 v5 (fun x v => Host.reduceAdd x v reducesTo_S4608x256_S4608_d1 h_S_),
    TRef.unary v5 v6 (broadcastInDim S4608x1 ![0] bcast_S4608_S4608x1_0),
    TRef.nullary c1 (constant S_ .f32 0x40000000#32),
    TRef.unary c1 v7 (broadcastInDim S4608x256 ![] bcast_S_S4608x256),
    TRef.binary v7 x v8 mulf,
    TRef.unary e v9 (fun v => transpose S256x1024 [1, 0] v transposes_S1024x256_S256x1024_1_0),
    TRef.binary v8 v9 v10 (fun l r => Host.dotGeneral dot_S4608x256_S256x1024_S4608x1024_1_0_0_1_n_n none l r),
    TRef.unary v6 v11 (broadcastInDim S4608x1024 ![0, 1] bcast_S4608x1_S4608x1024_0_1),
    TRef.binary v11 v10 v12 subf,
    TRef.binary e e v13 mulf,
    TRef.nullary c2 (constant S_ .f32 0x00000000#32),
    TRef.binary v13 c2 v14 (fun x v => Host.reduceAdd x v reducesTo_S1024x256_S1024_d1 h_S_),
    TRef.unary v14 v15 (broadcastInDim S1x1024 ![1] bcast_S1024_S1x1024_1),
    TRef.unary v15 v16 (broadcastInDim S4608x1024 ![0, 1] bcast_S1x1024_S4608x1024_0_1),
    TRef.binary v12 v16 v17 addf]
  outs := [v4.ref, c0.ref, v5.ref, v6.ref, c1.ref, v7.ref, v8.ref, v9.ref, v10.ref, v11.ref, v12.ref, v13.ref, c2.ref,
    v14.ref, v15.ref, v16.ref, v17.ref]
  writes_eq := rfl
  sub := ⟨binary_bufs_sub .., nullary_bufs_sub .., binary_bufs_sub .., unary_bufs_sub .., nullary_bufs_sub ..,
    unary_bufs_sub .., binary_bufs_sub .., unary_bufs_sub .., binary_bufs_sub .., unary_bufs_sub ..,
    binary_bufs_sub .., binary_bufs_sub .., nullary_bufs_sub .., binary_bufs_sub .., unary_bufs_sub ..,
    unary_bufs_sub .., binary_bufs_sub ..⟩
  fresh_eq := ⟨rfl, rfl, rfl, rfl, rfl, rfl, rfl, rfl, rfl, rfl, rfl, rfl, rfl, rfl, rfl, rfl, rfl⟩

/-- The position of the least distance of every row. -/
def argP (d : TRef sig ⟨S4608x1024, .f32⟩) (i : TRef sig ⟨S4608x1024, .i32⟩) (c : TRef sig ⟨S_, .f32⟩) (z : TRef sig ⟨S_, .i32⟩) (a : TRef sig ⟨S4608, .f32⟩) (b : TRef sig ⟨S4608, .i32⟩) : Piece F where
  ops := [
    TRef.nullary i (iotaInDim S4608x1024 32 1),
    TRef.nullary c (constant S_ .f32 0x7F800000#32),
    TRef.nullary z (constantI S_ 32 0#32),
    TRef.quaternary d i c z a (fun x y u v j => (Host.argReduce reducer_argmin_f32_i32 x y u v reducesTo_S4608x1024_S4608_d1 h_S_ j).1),
    TRef.quaternary d i c z b (fun x y u v j => (Host.argReduce reducer_argmin_f32_i32 x y u v reducesTo_S4608x1024_S4608_d1 h_S_ j).2)]
  outs := [i.ref, c.ref, z.ref, a.ref, b.ref]
  writes_eq := rfl
  sub := ⟨nullary_bufs_sub .., nullary_bufs_sub .., nullary_bufs_sub .., quaternary_bufs_sub .., quaternary_bufs_sub ..⟩
  fresh_eq := ⟨rfl, rfl, rfl, rfl, rfl⟩

/-- The rows of the codebook at those positions. -/
def takeP (e : TRef sig ⟨S1024x256, .f32⟩) (a : TRef sig ⟨S4608, .i32⟩) (c : TRef sig ⟨S_, .i32⟩) (v0 : TRef sig ⟨S4608, .i32⟩) (v1 : TRef sig ⟨S4608, .i1⟩) (c0 : TRef sig ⟨S_, .i32⟩) (v2 : TRef sig ⟨S4608, .i32⟩) (v3 : TRef sig ⟨S4608, .i32⟩) (v4 : TRef sig ⟨S4608, .i32⟩) (v5 : TRef sig ⟨S4608x1, .i32⟩) (c1 : TRef sig ⟨S1, .i32⟩) (c2 : TRef sig ⟨S_, .i32⟩) (v6 : TRef sig ⟨S4608x1, .i32⟩) (v7 : TRef sig ⟨S4608x1, .i1⟩) (v8 : TRef sig ⟨S1x1, .i32⟩) (v9 : TRef sig ⟨S4608x1, .i32⟩) (v10 : TRef sig ⟨S4608x1, .i1⟩) (v11 : TRef sig ⟨S4608x1, .i1⟩) (c3 : TRef sig ⟨S_, .i1⟩) (v12 : TRef sig ⟨S4608, .i1⟩) (v13 : TRef sig ⟨S4608x256, .f32⟩) (v14 : TRef sig ⟨S4608x256, .i1⟩) (n : TRef sig ⟨S_, .f32⟩) (v15 : TRef sig ⟨S4608x256, .f32⟩) (v16 : TRef sig ⟨S4608x256, .f32⟩) : Piece F where
  ops := [
    TRef.nullary c (constantI S_ 32 0#32),
    TRef.unary c v0 (broadcastInDim S4608 ![] bcast_S_S4608),
    TRef.binary a v0 v1 (cmpi .slt),
    TRef.nullary c0 (constantI S_ 32 1024#32),
    TRef.unary c0 v2 (broadcastInDim S4608 ![] bcast_S_S4608),
    TRef.binary a v2 v3 addi,
    TRef.ternary v1 v3 a v4 select,
    TRef.unary v4 v5 (broadcastInDim S4608x1 ![0] bcast_S4608_S4608x1_0),
    TRef.nullary c1 (constantI S1 32 1023#32),
    TRef.nullary c2 (constantI S_ 32 0#32),
    TRef.unary c2 v6 (broadcastInDim S4608x1 ![] bcast_S_S4608x1),
    TRef.binary v5 v6 v7 (cmpi .sge),
    TRef.unary c1 v8 (broadcastInDim S1x1 ![1] bcast_S1_S1x1_1),
    TRef.unary v8 v9 (broadcastInDim S4608x1 ![0, 1] bcast_S1x1_S4608x1_0_1),
    TRef.binary v5 v9 v10 (cmpi .sle),
    TRef.binary v7 v10 v11 andi,
    TRef.nullary c3 (constantI S_ 1 1#1),
    TRef.binary v11 c3 v12 (fun x v => Host.reduce IntOp.andi x v reducesTo_S4608x1_S4608_d1 h_S_),
    TRef.binary e v5 v13 (fun x i => Host.gather gather_S1024x256_S4608x1_S4608x256_1_0_n_n_0_1_1256 x i),
    TRef.unary v12 v14 (broadcastInDim S4608x256 ![0] bcast_S4608_S4608x256_0),
    TRef.nullary n (constant S_ .f32 0x7FC00000#32),
    TRef.unary n v15 (broadcastInDim S4608x256 ![] bcast_S_S4608x256),
    TRef.ternary v14 v13 v15 v16 select]
  outs := [c.ref, v0.ref, v1.ref, c0.ref, v2.ref, v3.ref, v4.ref, v5.ref, c1.ref, c2.ref, v6.ref, v7.ref, v8.ref, v9.ref,
    v10.ref, v11.ref, c3.ref, v12.ref, v13.ref, v14.ref, n.ref, v15.ref, v16.ref]
  writes_eq := rfl
  sub := ⟨nullary_bufs_sub .., unary_bufs_sub .., binary_bufs_sub .., nullary_bufs_sub .., unary_bufs_sub ..,
    binary_bufs_sub .., ternary_bufs_sub .., unary_bufs_sub .., nullary_bufs_sub .., nullary_bufs_sub ..,
    unary_bufs_sub .., binary_bufs_sub .., unary_bufs_sub .., unary_bufs_sub .., binary_bufs_sub ..,
    binary_bufs_sub .., nullary_bufs_sub .., binary_bufs_sub .., binary_bufs_sub .., unary_bufs_sub ..,
    nullary_bufs_sub .., unary_bufs_sub .., ternary_bufs_sub ..⟩
  fresh_eq := ⟨rfl, rfl, rfl, rfl, rfl, rfl, rfl, rfl, rfl, rfl, rfl, rfl, rfl, rfl, rfl, rfl, rfl, rfl, rfl, rfl, rfl, rfl, rfl⟩

/-- The mean squared difference of the codes and the rows. -/
def lossP (q : TRef sig ⟨S4608x256, .f32⟩) (x : TRef sig ⟨S4608x256, .f32⟩) (v20 : TRef sig ⟨S4608x256, .f32⟩) (v21 : TRef sig ⟨S4608x256, .f32⟩) (c3 : TRef sig ⟨S_, .f32⟩) (v22 : TRef sig ⟨S_, .f32⟩) (c4 : TRef sig ⟨S_, .f32⟩) (v23 : TRef sig ⟨S_, .f32⟩) : Piece F where
  ops := [
    TRef.binary q x v20 subf,
    TRef.binary v20 v20 v21 mulf,
    TRef.nullary c3 (constant S_ .f32 0x00000000#32),
    TRef.binary v21 c3 v22 (fun x v => Host.reduceAdd x v reducesTo_S4608x256_S_d0_1 h_S_),
    TRef.nullary c4 (constant S_ .f32 0x49900000#32),
    TRef.binary v22 c4 v23 Host.divf]
  outs := [v20.ref, v21.ref, c3.ref, v22.ref, c4.ref, v23.ref]
  writes_eq := rfl
  sub := ⟨binary_bufs_sub .., binary_bufs_sub .., nullary_bufs_sub .., binary_bufs_sub .., nullary_bufs_sub ..,
    binary_bufs_sub ..⟩
  fresh_eq := ⟨rfl, rfl, rfl, rfl, rfl, rfl⟩

/-- The length of every row. -/
def normP (x : TRef sig ⟨S4608x256, .f32⟩) (v0 : TRef sig ⟨S4608x256, .f32⟩) (c : TRef sig ⟨S_, .f32⟩) (v1 : TRef sig ⟨S4608, .f32⟩) (v2 : TRef sig ⟨S4608x1, .f32⟩) (v3 : TRef sig ⟨S4608x1, .f32⟩) : Piece F where
  ops := [
    TRef.binary x x v0 mulf,
    TRef.nullary c (constant S_ .f32 0x00000000#32),
    TRef.binary v0 c v1 (fun x v => Host.reduceAdd x v reducesTo_S4608x256_S4608_d1 h_S_),
    TRef.unary v1 v2 (broadcastInDim S4608x1 ![0] bcast_S4608_S4608x1_0),
    TRef.unary v2 v3 Host.sqrt]
  outs := [v0.ref, c.ref, v1.ref, v2.ref, v3.ref]
  writes_eq := rfl
  sub := ⟨binary_bufs_sub .., nullary_bufs_sub .., binary_bufs_sub .., unary_bufs_sub .., unary_bufs_sub ..⟩
  fresh_eq := ⟨rfl, rfl, rfl, rfl, rfl⟩

/-- Every row over its length, the length kept off zero. -/
def unitP (x : TRef sig ⟨S4608x256, .f32⟩) (n : TRef sig ⟨S4608x1, .f32⟩) (c : TRef sig ⟨S_, .f32⟩) (v26 : TRef sig ⟨S4608x1, .f32⟩) (v27 : TRef sig ⟨S4608x1, .f32⟩) (v28 : TRef sig ⟨S4608x256, .f32⟩) (v29 : TRef sig ⟨S4608x256, .f32⟩) : Piece F where
  ops := [
    TRef.nullary c (constant S_ .f32 0x358637BD#32),
    TRef.unary c v26 (broadcastInDim S4608x1 ![] bcast_S_S4608x1),
    TRef.binary n v26 v27 addf,
    TRef.unary v27 v28 (broadcastInDim S4608x256 ![0, 1] bcast_S4608x1_S4608x256_0_1),
    TRef.binary x v28 v29 Host.divf]
  outs := [c.ref, v26.ref, v27.ref, v28.ref, v29.ref]
  writes_eq := rfl
  sub := ⟨nullary_bufs_sub .., unary_bufs_sub .., binary_bufs_sub .., unary_bufs_sub .., binary_bufs_sub ..⟩
  fresh_eq := ⟨rfl, rfl, rfl, rfl, rfl⟩

/-- The sum of the two directions, made twice. -/
def sumP (z : TRef sig ⟨S4608x256, .f32⟩) (q : TRef sig ⟨S4608x256, .f32⟩) (a : TRef sig ⟨S4608x256, .f32⟩) (b : TRef sig ⟨S4608x256, .f32⟩) : Piece F where
  ops := [
    TRef.binary z q a addf,
    TRef.binary z q b addf]
  outs := [a.ref, b.ref]
  writes_eq := rfl
  sub := ⟨binary_bufs_sub .., binary_bufs_sub ..⟩
  fresh_eq := ⟨rfl, rfl⟩

/-- The sum over its length. -/
def overP (s : TRef sig ⟨S4608x256, .f32⟩) (n : TRef sig ⟨S4608x1, .f32⟩) (v37 : TRef sig ⟨S4608x256, .f32⟩) (v38 : TRef sig ⟨S4608x256, .f32⟩) : Piece F where
  ops := [
    TRef.unary n v37 (broadcastInDim S4608x256 ![0, 1] bcast_S4608x1_S4608x256_0_1),
    TRef.binary s v37 v38 Host.divf]
  outs := [v37.ref, v38.ref]
  writes_eq := rfl
  sub := ⟨unary_bufs_sub .., binary_bufs_sub ..⟩
  fresh_eq := ⟨rfl, rfl⟩

/-- The inner product of two rows. -/
def dotP (x : TRef sig ⟨S4608x256, .f32⟩) (y : TRef sig ⟨S4608x256, .f32⟩) (m : TRef sig ⟨S4608x256, .f32⟩) (c : TRef sig ⟨S_, .f32⟩) (v : TRef sig ⟨S4608, .f32⟩) (o : TRef sig ⟨S4608x1, .f32⟩) : Piece F where
  ops := [
    TRef.binary x y m mulf,
    TRef.nullary c (constant S_ .f32 0x00000000#32),
    TRef.binary m c v (fun x v => Host.reduceAdd x v reducesTo_S4608x256_S4608_d1 h_S_),
    TRef.unary v o (broadcastInDim S4608x1 ![0] bcast_S4608_S4608x1_0)]
  outs := [m.ref, c.ref, v.ref, o.ref]
  writes_eq := rfl
  sub := ⟨binary_bufs_sub .., nullary_bufs_sub .., binary_bufs_sub .., unary_bufs_sub ..⟩
  fresh_eq := ⟨rfl, rfl, rfl, rfl⟩

/-- The rotated row. -/
def rotP (x : TRef sig ⟨S4608x256, .f32⟩) (w : TRef sig ⟨S4608x256, .f32⟩) (q : TRef sig ⟨S4608x256, .f32⟩) (ew : TRef sig ⟨S4608x1, .f32⟩) (ez : TRef sig ⟨S4608x1, .f32⟩) (c9 : TRef sig ⟨S_, .f32⟩) (v45 : TRef sig ⟨S4608x1, .f32⟩) (v46 : TRef sig ⟨S4608x1, .f32⟩) (v47 : TRef sig ⟨S4608x256, .f32⟩) (v48 : TRef sig ⟨S4608x256, .f32⟩) (v49 : TRef sig ⟨S4608x256, .f32⟩) (c10 : TRef sig ⟨S_, .f32⟩) (v50 : TRef sig ⟨S4608x1, .f32⟩) (v51 : TRef sig ⟨S4608x1, .f32⟩) (v52 : TRef sig ⟨S4608x256, .f32⟩) (v53 : TRef sig ⟨S4608x256, .f32⟩) (v54 : TRef sig ⟨S4608x256, .f32⟩) : Piece F where
  ops := [
    TRef.nullary c9 (constant S_ .f32 0x40000000#32),
    TRef.unary c9 v45 (broadcastInDim S4608x1 ![] bcast_S_S4608x1),
    TRef.binary v45 ew v46 mulf,
    TRef.unary v46 v47 (broadcastInDim S4608x256 ![0, 1] bcast_S4608x1_S4608x256_0_1),
    TRef.binary v47 w v48 mulf,
    TRef.binary x v48 v49 subf,
    TRef.nullary c10 (constant S_ .f32 0x40000000#32),
    TRef.unary c10 v50 (broadcastInDim S4608x1 ![] bcast_S_S4608x1),
    TRef.binary v50 ez v51 mulf,
    TRef.unary v51 v52 (broadcastInDim S4608x256 ![0, 1] bcast_S4608x1_S4608x256_0_1),
    TRef.binary v52 q v53 mulf,
    TRef.binary v49 v53 v54 addf]
  outs := [c9.ref, v45.ref, v46.ref, v47.ref, v48.ref, v49.ref, c10.ref, v50.ref, v51.ref, v52.ref, v53.ref, v54.ref]
  writes_eq := rfl
  sub := ⟨nullary_bufs_sub .., unary_bufs_sub .., binary_bufs_sub .., unary_bufs_sub .., binary_bufs_sub ..,
    binary_bufs_sub .., nullary_bufs_sub .., unary_bufs_sub .., binary_bufs_sub .., unary_bufs_sub ..,
    binary_bufs_sub .., binary_bufs_sub ..⟩
  fresh_eq := ⟨rfl, rfl, rfl, rfl, rfl, rfl, rfl, rfl, rfl, rfl, rfl, rfl⟩

/-- The rotated row at the length of its code. -/
def scaleP (t : TRef sig ⟨S4608x256, .f32⟩) (zn : TRef sig ⟨S4608x1, .f32⟩) (qn : TRef sig ⟨S4608x1, .f32⟩) (c11 : TRef sig ⟨S_, .f32⟩) (v55 : TRef sig ⟨S4608x1, .f32⟩) (v56 : TRef sig ⟨S4608x1, .f32⟩) (v57 : TRef sig ⟨S4608x1, .f32⟩) (v58 : TRef sig ⟨S4608x256, .f32⟩) (v59 : TRef sig ⟨S4608x256, .f32⟩) : Piece F where
  ops := [
    TRef.nullary c11 (constant S_ .f32 0x358637BD#32),
    TRef.unary c11 v55 (broadcastInDim S4608x1 ![] bcast_S_S4608x1),
    TRef.binary zn v55 v56 addf,
    TRef.binary qn v56 v57 Host.divf,
    TRef.unary v57 v58 (broadcastInDim S4608x256 ![0, 1] bcast_S4608x1_S4608x256_0_1),
    TRef.binary t v58 v59 mulf]
  outs := [c11.ref, v55.ref, v56.ref, v57.ref, v58.ref, v59.ref]
  writes_eq := rfl
  sub := ⟨nullary_bufs_sub .., unary_bufs_sub .., binary_bufs_sub .., binary_bufs_sub .., unary_bufs_sub ..,
    binary_bufs_sub ..⟩
  fresh_eq := ⟨rfl, rfl, rfl, rfl, rfl, rfl⟩

/-- The next residual, the running output, and the positions as an array. -/
def outP (y : TRef sig ⟨S4608x256, .f32⟩) (y3 : TRef sig ⟨S8x576x256, .f32⟩) (r : TRef sig ⟨S8x576x256, .f32⟩) (r1 : TRef sig ⟨S8x576x256, .f32⟩) (o : TRef sig ⟨S8x576x256, .f32⟩) (o1 : TRef sig ⟨S8x576x256, .f32⟩) (a : TRef sig ⟨S4608, .i32⟩) (a2 : TRef sig ⟨S8x576, .i32⟩) : Piece F where
  ops := [
    TRef.reshape y y3 rfl shapeCasts_S4608x256_S8x576x256,
    TRef.binary r y3 r1 subf,
    TRef.binary o y3 o1 addf,
    TRef.reshape a a2 rfl shapeCasts_S4608_S8x576]
  outs := [y3.ref, r1.ref, o1.ref, a2.ref]
  writes_eq := rfl
  sub := ⟨reshape_bufs_sub .., binary_bufs_sub .., binary_bufs_sub .., reshape_bufs_sub ..⟩
  fresh_eq := ⟨rfl, rfl, rfl, rfl⟩

/-- Four columns of positions side by side. -/
def cat4i (a b c d : (⟨S8x576x1, .i32⟩ : BufTy).Contents (Elt F)) : (⟨S8x576x4, .i32⟩ : BufTy).Contents (Elt F) :=
  concatenate S8x576x4 2 [⟨S8x576x1, a⟩, ⟨S8x576x1, b⟩, ⟨S8x576x1, c⟩, ⟨S8x576x1, d⟩]
    concatenates_S8x576x1_S8x576x1_S8x576x1_S8x576x1_S8x576x4_d2

/-- Four numbers in a row. -/
def cat4f (a b c d : (⟨S1, .f32⟩ : BufTy).Contents (Elt F)) : (⟨S4, .f32⟩ : BufTy).Contents (Elt F) :=
  concatenate S4 0 [⟨S1, a⟩, ⟨S1, b⟩, ⟨S1, c⟩, ⟨S1, d⟩] concatenates_S1_S1_S1_S1_S4_d0

/-- The positions and the losses of the four stages side by side, and the three results. -/
def endP : Piece F where
  ops := [
    TRef.unary (.of main_v63 : TRef sig ⟨S8x576, .i32⟩) (.of main_v253 : TRef sig ⟨S8x576x1, .i32⟩) (broadcastInDim S8x576x1 ![0, 1] bcast_S8x576_S8x576x1_0_1),
    TRef.unary (.of main_v126 : TRef sig ⟨S8x576, .i32⟩) (.of main_v254 : TRef sig ⟨S8x576x1, .i32⟩) (broadcastInDim S8x576x1 ![0, 1] bcast_S8x576_S8x576x1_0_1),
    TRef.unary (.of main_v189 : TRef sig ⟨S8x576, .i32⟩) (.of main_v255 : TRef sig ⟨S8x576x1, .i32⟩) (broadcastInDim S8x576x1 ![0, 1] bcast_S8x576_S8x576x1_0_1),
    TRef.unary (.of main_v252 : TRef sig ⟨S8x576, .i32⟩) (.of main_v256 : TRef sig ⟨S8x576x1, .i32⟩) (broadcastInDim S8x576x1 ![0, 1] bcast_S8x576_S8x576x1_0_1),
    nary ![main_v253, main_v254, main_v255, main_v256] main_v257 (fun u => cat4i (u 0) (u 1) (u 2) (u 3)),
    TRef.unary (.of main_v23 : TRef sig ⟨S_, .f32⟩) (.of main_v258 : TRef sig ⟨S1, .f32⟩) (broadcastInDim S1 ![] bcast_S_S1),
    TRef.unary (.of main_v86 : TRef sig ⟨S_, .f32⟩) (.of main_v259 : TRef sig ⟨S1, .f32⟩) (broadcastInDim S1 ![] bcast_S_S1),
    TRef.unary (.of main_v149 : TRef sig ⟨S_, .f32⟩) (.of main_v260 : TRef sig ⟨S1, .f32⟩) (broadcastInDim S1 ![] bcast_S_S1),
    TRef.unary (.of main_v212 : TRef sig ⟨S_, .f32⟩) (.of main_v261 : TRef sig ⟨S1, .f32⟩) (broadcastInDim S1 ![] bcast_S_S1),
    nary ![main_v258, main_v259, main_v260, main_v261] main_v262 (fun u => cat4f (u 0) (u 1) (u 2) (u 3)),
    reshape main_v251 main_v263 rfl shapeCasts_S8x576x256_S4608x256,
    reshape main_v257 main_v264 rfl shapeCasts_S8x576x4_S4608x4,
    reshape main_v262 main_v265 rfl shapeCasts_S4_S1x4]
  outs := [main_v253, main_v254, main_v255, main_v256, main_v257, main_v258, main_v259, main_v260, main_v261, main_v262,
    main_v263, main_v264, main_v265]
  writes_eq := rfl
  sub := ⟨unary_bufs_sub .., unary_bufs_sub .., unary_bufs_sub .., unary_bufs_sub .., nary_bufs_sub .., unary_bufs_sub ..,
    unary_bufs_sub .., unary_bufs_sub .., unary_bufs_sub .., nary_bufs_sub .., reshape_bufs_sub .., reshape_bufs_sub ..,
    reshape_bufs_sub ..⟩
  fresh_eq := ⟨rfl, rfl, rfl, rfl, rfl, rfl, rfl, rfl, rfl, rfl, rfl, rfl, rfl⟩

/-- The whole program. -/
def pieces : List (Piece F) := [
    zeroP (.of main_cst) (.of main_v0),
    inP (.of main_arg1) (.of main_v1) (.of main_v2) (.of main_arg0) (.of main_v3) ![0, 0, 0]
      slices_S4x1024x256_S1x1024x256_0_0_0,
    distP (.of main_v3) (.of main_v2) (.of main_v4) (.of main_cst_0) (.of main_v5) (.of main_v6) (.of main_cst_1)
      (.of main_v7) (.of main_v8) (.of main_v9) (.of main_v10) (.of main_v11) (.of main_v12) (.of main_v13) (.of
      main_cst_2) (.of main_v14) (.of main_v15) (.of main_v16) (.of main_v17),
    argP (.of main_v17) (.of main_call0_v0) (.of main_call0_cst) (.of main_call0_c) (.of main_call0_v1_0) (.of
      main_v18),
    takeP (.of main_v2) (.of main_v18) (.of main_call1_c) (.of main_call1_v0) (.of main_call1_v1) (.of
      main_call1_c_0) (.of main_call1_v2) (.of main_call1_v3) (.of main_call1_v4) (.of main_call1_v5) (.of
      main_call1_c_1) (.of main_call1_c_2) (.of main_call1_v6) (.of main_call1_v7) (.of main_call1_v8) (.of
      main_call1_v9) (.of main_call1_v10) (.of main_call1_v11) (.of main_call1_c_3) (.of main_call1_v12) (.of
      main_call1_v13) (.of main_call1_v14) (.of main_call1_cst) (.of main_call1_v15) (.of main_v19),
    lossP (.of main_v19) (.of main_v3) (.of main_v20) (.of main_v21) (.of main_cst_3) (.of main_v22) (.of
      main_cst_4) (.of main_v23),
    normP (.of main_v3) (.of main_call2_v0) (.of main_call2_cst) (.of main_call2_v1) (.of main_call2_v2) (.of
      main_v24),
    normP (.of main_v19) (.of main_call3_v0) (.of main_call3_cst) (.of main_call3_v1) (.of main_call3_v2) (.of
      main_v25),
    unitP (.of main_v3) (.of main_v24) (.of main_cst_5) (.of main_v26) (.of main_v27) (.of main_v28) (.of
      main_v29),
    unitP (.of main_v19) (.of main_v25) (.of main_cst_6) (.of main_v30) (.of main_v31) (.of main_v32) (.of
      main_v33),
    sumP (.of main_v29) (.of main_v33) (.of main_v34) (.of main_v35),
    normP (.of main_v35) (.of main_call4_v0) (.of main_call4_cst) (.of main_call4_v1) (.of main_call4_v2) (.of
      main_v36),
    overP (.of main_v34) (.of main_v36) (.of main_v37) (.of main_v38),
    dotP (.of main_v3) (.of main_v38) (.of main_v39) (.of main_cst_7) (.of main_v40) (.of main_v41),
    dotP (.of main_v3) (.of main_v29) (.of main_v42) (.of main_cst_8) (.of main_v43) (.of main_v44),
    rotP (.of main_v3) (.of main_v38) (.of main_v33) (.of main_v41) (.of main_v44) (.of main_cst_9) (.of main_v45)
      (.of main_v46) (.of main_v47) (.of main_v48) (.of main_v49) (.of main_cst_10) (.of main_v50) (.of main_v51)
      (.of main_v52) (.of main_v53) (.of main_v54),
    scaleP (.of main_v54) (.of main_v24) (.of main_v25) (.of main_cst_11) (.of main_v55) (.of main_v56) (.of
      main_v57) (.of main_v58) (.of main_v59),
    outP (.of main_v59) (.of main_v60) (.of main_arg0) (.of main_v61) (.of main_v0) (.of main_v62) (.of main_v18)
      (.of main_v63),
    inP (.of main_arg1) (.of main_v64) (.of main_v65) (.of main_v61) (.of main_v66) ![1, 0, 0]
      slices_S4x1024x256_S1x1024x256_1_0_0,
    distP (.of main_v66) (.of main_v65) (.of main_v67) (.of main_cst_12) (.of main_v68) (.of main_v69) (.of
      main_cst_13) (.of main_v70) (.of main_v71) (.of main_v72) (.of main_v73) (.of main_v74) (.of main_v75) (.of
      main_v76) (.of main_cst_14) (.of main_v77) (.of main_v78) (.of main_v79) (.of main_v80),
    argP (.of main_v80) (.of main_call5_v0) (.of main_call5_cst) (.of main_call5_c) (.of main_call5_v1_0) (.of
      main_v81),
    takeP (.of main_v65) (.of main_v81) (.of main_call6_c) (.of main_call6_v0) (.of main_call6_v1) (.of
      main_call6_c_0) (.of main_call6_v2) (.of main_call6_v3) (.of main_call6_v4) (.of main_call6_v5) (.of
      main_call6_c_1) (.of main_call6_c_2) (.of main_call6_v6) (.of main_call6_v7) (.of main_call6_v8) (.of
      main_call6_v9) (.of main_call6_v10) (.of main_call6_v11) (.of main_call6_c_3) (.of main_call6_v12) (.of
      main_call6_v13) (.of main_call6_v14) (.of main_call6_cst) (.of main_call6_v15) (.of main_v82),
    lossP (.of main_v82) (.of main_v66) (.of main_v83) (.of main_v84) (.of main_cst_15) (.of main_v85) (.of
      main_cst_16) (.of main_v86),
    normP (.of main_v66) (.of main_call7_v0) (.of main_call7_cst) (.of main_call7_v1) (.of main_call7_v2) (.of
      main_v87),
    normP (.of main_v82) (.of main_call8_v0) (.of main_call8_cst) (.of main_call8_v1) (.of main_call8_v2) (.of
      main_v88),
    unitP (.of main_v66) (.of main_v87) (.of main_cst_17) (.of main_v89) (.of main_v90) (.of main_v91) (.of
      main_v92),
    unitP (.of main_v82) (.of main_v88) (.of main_cst_18) (.of main_v93) (.of main_v94) (.of main_v95) (.of
      main_v96),
    sumP (.of main_v92) (.of main_v96) (.of main_v97) (.of main_v98),
    normP (.of main_v98) (.of main_call9_v0) (.of main_call9_cst) (.of main_call9_v1) (.of main_call9_v2) (.of
      main_v99),
    overP (.of main_v97) (.of main_v99) (.of main_v100) (.of main_v101),
    dotP (.of main_v66) (.of main_v101) (.of main_v102) (.of main_cst_19) (.of main_v103) (.of main_v104),
    dotP (.of main_v66) (.of main_v92) (.of main_v105) (.of main_cst_20) (.of main_v106) (.of main_v107),
    rotP (.of main_v66) (.of main_v101) (.of main_v96) (.of main_v104) (.of main_v107) (.of main_cst_21) (.of
      main_v108) (.of main_v109) (.of main_v110) (.of main_v111) (.of main_v112) (.of main_cst_22) (.of main_v113)
      (.of main_v114) (.of main_v115) (.of main_v116) (.of main_v117),
    scaleP (.of main_v117) (.of main_v87) (.of main_v88) (.of main_cst_23) (.of main_v118) (.of main_v119) (.of
      main_v120) (.of main_v121) (.of main_v122),
    outP (.of main_v122) (.of main_v123) (.of main_v61) (.of main_v124) (.of main_v62) (.of main_v125) (.of
      main_v81) (.of main_v126),
    inP (.of main_arg1) (.of main_v127) (.of main_v128) (.of main_v124) (.of main_v129) ![2, 0, 0]
      slices_S4x1024x256_S1x1024x256_2_0_0,
    distP (.of main_v129) (.of main_v128) (.of main_v130) (.of main_cst_24) (.of main_v131) (.of main_v132) (.of
      main_cst_25) (.of main_v133) (.of main_v134) (.of main_v135) (.of main_v136) (.of main_v137) (.of main_v138)
      (.of main_v139) (.of main_cst_26) (.of main_v140) (.of main_v141) (.of main_v142) (.of main_v143),
    argP (.of main_v143) (.of main_call10_v0) (.of main_call10_cst) (.of main_call10_c) (.of main_call10_v1_0)
      (.of main_v144),
    takeP (.of main_v128) (.of main_v144) (.of main_call11_c) (.of main_call11_v0) (.of main_call11_v1) (.of
      main_call11_c_0) (.of main_call11_v2) (.of main_call11_v3) (.of main_call11_v4) (.of main_call11_v5) (.of
      main_call11_c_1) (.of main_call11_c_2) (.of main_call11_v6) (.of main_call11_v7) (.of main_call11_v8) (.of
      main_call11_v9) (.of main_call11_v10) (.of main_call11_v11) (.of main_call11_c_3) (.of main_call11_v12) (.of
      main_call11_v13) (.of main_call11_v14) (.of main_call11_cst) (.of main_call11_v15) (.of main_v145),
    lossP (.of main_v145) (.of main_v129) (.of main_v146) (.of main_v147) (.of main_cst_27) (.of main_v148) (.of
      main_cst_28) (.of main_v149),
    normP (.of main_v129) (.of main_call12_v0) (.of main_call12_cst) (.of main_call12_v1) (.of main_call12_v2)
      (.of main_v150),
    normP (.of main_v145) (.of main_call13_v0) (.of main_call13_cst) (.of main_call13_v1) (.of main_call13_v2)
      (.of main_v151),
    unitP (.of main_v129) (.of main_v150) (.of main_cst_29) (.of main_v152) (.of main_v153) (.of main_v154) (.of
      main_v155),
    unitP (.of main_v145) (.of main_v151) (.of main_cst_30) (.of main_v156) (.of main_v157) (.of main_v158) (.of
      main_v159),
    sumP (.of main_v155) (.of main_v159) (.of main_v160) (.of main_v161),
    normP (.of main_v161) (.of main_call14_v0) (.of main_call14_cst) (.of main_call14_v1) (.of main_call14_v2)
      (.of main_v162),
    overP (.of main_v160) (.of main_v162) (.of main_v163) (.of main_v164),
    dotP (.of main_v129) (.of main_v164) (.of main_v165) (.of main_cst_31) (.of main_v166) (.of main_v167),
    dotP (.of main_v129) (.of main_v155) (.of main_v168) (.of main_cst_32) (.of main_v169) (.of main_v170),
    rotP (.of main_v129) (.of main_v164) (.of main_v159) (.of main_v167) (.of main_v170) (.of main_cst_33) (.of
      main_v171) (.of main_v172) (.of main_v173) (.of main_v174) (.of main_v175) (.of main_cst_34) (.of main_v176)
      (.of main_v177) (.of main_v178) (.of main_v179) (.of main_v180),
    scaleP (.of main_v180) (.of main_v150) (.of main_v151) (.of main_cst_35) (.of main_v181) (.of main_v182) (.of
      main_v183) (.of main_v184) (.of main_v185),
    outP (.of main_v185) (.of main_v186) (.of main_v124) (.of main_v187) (.of main_v125) (.of main_v188) (.of
      main_v144) (.of main_v189),
    inP (.of main_arg1) (.of main_v190) (.of main_v191) (.of main_v187) (.of main_v192) ![3, 0, 0]
      slices_S4x1024x256_S1x1024x256_3_0_0,
    distP (.of main_v192) (.of main_v191) (.of main_v193) (.of main_cst_36) (.of main_v194) (.of main_v195) (.of
      main_cst_37) (.of main_v196) (.of main_v197) (.of main_v198) (.of main_v199) (.of main_v200) (.of main_v201)
      (.of main_v202) (.of main_cst_38) (.of main_v203) (.of main_v204) (.of main_v205) (.of main_v206),
    argP (.of main_v206) (.of main_call15_v0) (.of main_call15_cst) (.of main_call15_c) (.of main_call15_v1_0)
      (.of main_v207),
    takeP (.of main_v191) (.of main_v207) (.of main_call16_c) (.of main_call16_v0) (.of main_call16_v1) (.of
      main_call16_c_0) (.of main_call16_v2) (.of main_call16_v3) (.of main_call16_v4) (.of main_call16_v5) (.of
      main_call16_c_1) (.of main_call16_c_2) (.of main_call16_v6) (.of main_call16_v7) (.of main_call16_v8) (.of
      main_call16_v9) (.of main_call16_v10) (.of main_call16_v11) (.of main_call16_c_3) (.of main_call16_v12) (.of
      main_call16_v13) (.of main_call16_v14) (.of main_call16_cst) (.of main_call16_v15) (.of main_v208),
    lossP (.of main_v208) (.of main_v192) (.of main_v209) (.of main_v210) (.of main_cst_39) (.of main_v211) (.of
      main_cst_40) (.of main_v212),
    normP (.of main_v192) (.of main_call17_v0) (.of main_call17_cst) (.of main_call17_v1) (.of main_call17_v2)
      (.of main_v213),
    normP (.of main_v208) (.of main_call18_v0) (.of main_call18_cst) (.of main_call18_v1) (.of main_call18_v2)
      (.of main_v214),
    unitP (.of main_v192) (.of main_v213) (.of main_cst_41) (.of main_v215) (.of main_v216) (.of main_v217) (.of
      main_v218),
    unitP (.of main_v208) (.of main_v214) (.of main_cst_42) (.of main_v219) (.of main_v220) (.of main_v221) (.of
      main_v222),
    sumP (.of main_v218) (.of main_v222) (.of main_v223) (.of main_v224),
    normP (.of main_v224) (.of main_call19_v0) (.of main_call19_cst) (.of main_call19_v1) (.of main_call19_v2)
      (.of main_v225),
    overP (.of main_v223) (.of main_v225) (.of main_v226) (.of main_v227),
    dotP (.of main_v192) (.of main_v227) (.of main_v228) (.of main_cst_43) (.of main_v229) (.of main_v230),
    dotP (.of main_v192) (.of main_v218) (.of main_v231) (.of main_cst_44) (.of main_v232) (.of main_v233),
    rotP (.of main_v192) (.of main_v227) (.of main_v222) (.of main_v230) (.of main_v233) (.of main_cst_45) (.of
      main_v234) (.of main_v235) (.of main_v236) (.of main_v237) (.of main_v238) (.of main_cst_46) (.of main_v239)
      (.of main_v240) (.of main_v241) (.of main_v242) (.of main_v243),
    scaleP (.of main_v243) (.of main_v213) (.of main_v214) (.of main_cst_47) (.of main_v244) (.of main_v245) (.of
      main_v246) (.of main_v247) (.of main_v248),
    outP (.of main_v248) (.of main_v249) (.of main_v187) (.of main_v250) (.of main_v188) (.of main_v251) (.of
      main_v207) (.of main_v252),
    endP]

set_option maxRecDepth 20000 in
set_option maxHeartbeats 4000000 in
theorem main_part0_eq (c : Dev nD) : main_part0 (F := F) c = seq (((line pieces).drop 0).take 98) := rfl

set_option maxRecDepth 20000 in
set_option maxHeartbeats 4000000 in
theorem main_part1_eq (c : Dev nD) : main_part1 (F := F) c = seq (((line pieces).drop 98).take 98) := rfl

set_option maxRecDepth 20000 in
set_option maxHeartbeats 4000000 in
theorem main_part2_eq (c : Dev nD) : main_part2 (F := F) c = seq (((line pieces).drop 196).take 86) := rfl

set_option maxRecDepth 20000 in
set_option maxHeartbeats 4000000 in
theorem main_part3_eq (c : Dev nD) : main_part3 (F := F) c = seq (((line pieces).drop 282).take 72) := rfl

set_option maxRecDepth 20000 in
set_option maxHeartbeats 4000000 in
theorem main_part4_eq (c : Dev nD) : main_part4 (F := F) c = seq (((line pieces).drop 354).take 98) := rfl

set_option maxRecDepth 20000 in
set_option maxHeartbeats 4000000 in
theorem main_part5_eq (c : Dev nD) : main_part5 (F := F) c = seq ((line pieces).drop 452) := rfl

/-- A line from some place on is run a stretch at a time. -/
theorem seq_from {nD : ℕ} {Λ : Labels} (l : List (HloOp τ sig (Elt F))) (a n b : ℕ) (h : a + n = b) :
    (seq (l.drop a) : Prog (TpuEff nD τ sig (Elt F) Λ .tc) PUnit) = seq ((l.drop a).take n) >>= fun _ => seq (l.drop b) := by
  rw [← seq_append, ← h, ← List.drop_drop, List.take_append_drop]

theorem main_eq (c : Dev nD) : main (F := F) c = seq (line pieces) := by
  show _ = seq ((line pieces).drop 0)
  rw [seq_from _ 0 98 98 rfl, seq_from _ 98 98 196 rfl, seq_from _ 196 86 282 rfl, seq_from _ 282 72 354 rfl, seq_from _ 354 98 452 rfl]
  rw [← main_part0_eq c, ← main_part1_eq c, ← main_part2_eq c, ← main_part3_eq c, ← main_part4_eq c, ← main_part5_eq c]
  rfl

theorem scopedRefs_eq : (Finset.univ.filter fun b : Ref sig .tc => b.isScoped) = ∅ := by decide

theorem scopedSems_eq : (Finset.univ.filter fun sm : SemLoc sig => sm.isScoped .tc) = ∅ := by decide

/-- The run: the whole line's contents at every buffer. -/
theorem run_pieces (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc),
        r.2.mem ((d.tc : Thread nD τ).loc b) = thru pieces (launchContents m d) (Proc.devRef .tc b) :=
  run_seq scopedRefs_eq scopedSems_eq defs main (fun _ => line pieces) main_eq (fun _ => line_sub pieces) m ρ
    fun _ => line_fresh pieces

end Cert.ReferenceIdeal.Pieces

end
-- ==== Proof.RefFrame.lean ====
/- The reference leaves its arguments alone and ends with every counter at zero: no piece of its line writes an argument, and
   the program names no semaphore. -/
module

public import proofs.«01_k».proof.Proof.RefOps
public import Idealize.ShloMosaic.Lib.Quiescent
public import Idealize.ShloMosaic.PureOps.Ideal

@[expose] public section

noncomputable section

namespace Cert.ReferenceIdeal.Pieces

open Cert.ReferenceIdeal Cert.ReferenceIdeal.Gen Idealize.ShloMosaic Idealize.ShloMosaic.TcCoe Idealize.SL.Sem Idealize.ShloMosaic.StableHlo

/-- The first argument keeps its contents. -/
theorem thru_arg0 (V : Valuation τ sig (Elt Ideal)) : thru pieces V (Proc.devRef .tc main_arg0) = V (Proc.devRef .tc main_arg0) :=
  thru_keep pieces V 0 main_arg0 (by decide)

/-- The second argument keeps its contents. -/
theorem thru_arg1 (V : Valuation τ sig (Elt Ideal)) : thru pieces V (Proc.devRef .tc main_arg1) = V (Proc.devRef .tc main_arg1) :=
  thru_keep pieces V 0 main_arg1 (by decide)

/-- Both arguments keep their contents, and every counter ends at zero. -/
theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  refine (θ_run defs _ _).mono ?_ (run_pieces m ρ)
  intro r hr
  refine ⟨fun c => ⟨?_, ?_⟩, sem_eq_zero_of_no_sems rfl _⟩
  · rw [hr c main_arg0, thru_arg0]
  · rw [hr c main_arg1, thru_arg1]

end Cert.ReferenceIdeal.Pieces

end
-- ==== Proof.Row.lean ====
/- The mathematics of one row: the squared distance to every code, the position of the least one, the code found, the
   rotated row, the four stages in turn, and what splitting a code into three parts changes of it (nothing that is used). -/
module

public import Idealize.ShloMosaic.PureOps.Ideal
public import Idealize.ShloMosaic.PureOps.Ideal.Laws

@[expose] public section

noncomputable section

namespace Cert.Row

open Idealize.ShloMosaic

/-- A row of the table. -/
abbrev Vec := Fin 256 → EReal

/-- A codebook. -/
abbrev Book := Fin 1024 → Vec

/-- The small number that keeps a length off zero. -/
def eps : EReal := Ideal.ofBits .f32 0x358637BD#32

/-- Two. -/
def two : EReal := Ideal.ofBits .f32 0x40000000#32

/-- The squared length. -/
def sq (r : Vec) : EReal := ∑ d, r d * r d

/-- The length. -/
def nrm (r : Vec) : EReal := Ideal.sqrt (sq r)

/-- The squared distance to a code. -/
def dist (r : Vec) (E : Book) (j : Fin 1024) : EReal := (sq r - ∑ d, (two * r d) * E j d) + sq (E j)

/-- The row over its length. -/
def unit (r : Vec) (d : Fin 256) : EReal := Ideal.div (r d) (nrm r + eps)

/-- The sum of the two directions. -/
def both (r q : Vec) (d : Fin 256) : EReal := unit r d + unit q d

/-- The direction half way. -/
def half (r q : Vec) (d : Fin 256) : EReal := Ideal.div (both r q d) (nrm (both r q))

/-- The inner product of two rows. -/
def dot (r s : Vec) : EReal := ∑ d, r d * s d

/-- The row rotated onto the code's direction, before its length is set. -/
def turn (r q : Vec) (d : Fin 256) : EReal :=
  (r d - (two * dot r (half r q)) * half r q d) + (two * dot r (unit r)) * unit q d

/-- The rotated row. -/
def rot (r q : Vec) (d : Fin 256) : EReal := turn r q d * Ideal.div (nrm q) (nrm r + eps)

/-- The squared difference of a code and the row. -/
def miss (r q : Vec) : EReal := ∑ d, (q d - r d) * (q d - r d)

/-- `j` is the first position of the least value. -/
def IsPos (f : Fin 1024 → EReal) (j : Fin 1024) : Prop := (∀ k, f j ≤ f k) ∧ ∀ k, f k = f j → j ≤ k

theorem exists_pos (f : Fin 1024 → EReal) : ∃ j, IsPos f j := by
  classical
  obtain ⟨m, -, hm⟩ := Finset.exists_min_image Finset.univ f ⟨0, Finset.mem_univ _⟩
  have hne : (Finset.univ.filter fun k => f k = f m).Nonempty := ⟨m, by simp⟩
  refine ⟨(Finset.univ.filter fun k => f k = f m).min' hne, ?_⟩
  have hmem := Finset.min'_mem _ hne
  rw [Finset.mem_filter] at hmem
  refine ⟨fun k => ?_, fun k hk => ?_⟩
  · rw [hmem.2]
    exact hm k (Finset.mem_univ _)
  · exact Finset.min'_le _ _ (by simpa using hk.trans hmem.2)

/-- The first position of the least value. -/
def pos (f : Fin 1024 → EReal) : Fin 1024 := Classical.choose (exists_pos f)

theorem pos_spec (f : Fin 1024 → EReal) : IsPos f (pos f) := Classical.choose_spec (exists_pos f)

theorem pos_eq {f : Fin 1024 → EReal} {j : Fin 1024} (h : IsPos f j) : pos f = j := by
  have hp := pos_spec f
  have he : f (pos f) = f j := le_antisymm (hp.1 j) (h.1 _)
  exact le_antisymm (hp.2 j he.symm) (h.2 _ he)

/-- The code found for a row. -/
def code (r : Vec) (E : Book) : Vec := E (pos (dist r E))

/-- The row left after one stage. -/
def next (r : Vec) (E : Book) (d : Fin 256) : EReal := r d - rot r (code r E) d

/-- The row that enters a stage. -/
def res (r : Vec) (E : Fin 4 → Book) : ℕ → Vec
  | 0 => r
  | k + 1 => if h : k < 4 then next (res r E k) (E ⟨k, h⟩) else res r E k

/-- A least value found by running minima, and its position among the positions, read as numbers: the first position. -/
theorem pos_of_folds (f : Fin 1024 → EReal) (b : EReal) (hb : b = ((2048 : ℝ) : EReal)) :
    Ideal.fptosi 32 (Finset.univ.fold min ⊤ fun j : Fin 1024 =>
        if f j = Finset.univ.fold min ⊤ f then (((j.val : ℕ) : ℝ) : EReal) else b)
      = BitVec.ofNat 32 (pos f).val := by
  have hp := pos_spec f
  have hm : Finset.univ.fold min ⊤ f = f (pos f) := by
    refine le_antisymm ((Finset.fold_min_le _).2 (Or.inr ⟨pos f, Finset.mem_univ _, le_rfl⟩)) ?_
    exact (Finset.le_fold_min _).2 ⟨le_top, fun k _ => hp.1 k⟩
  have hc : (Finset.univ.fold min ⊤ fun j : Fin 1024 =>
      if f j = Finset.univ.fold min ⊤ f then (((j.val : ℕ) : ℝ) : EReal) else b) = (((pos f).val : ℝ) : EReal) := by
    rw [hm]
    refine le_antisymm ((Finset.fold_min_le _).2 (Or.inr ⟨pos f, Finset.mem_univ _, by rw [if_pos rfl]⟩)) ?_
    refine (Finset.le_fold_min _).2 ⟨le_top, fun k _ => ?_⟩
    by_cases h : f k = f (pos f)
    · rw [if_pos h]
      exact EReal.coe_le_coe_iff.2 (Nat.cast_le.2 (hp.2 k h))
    · rw [if_neg h, hb]
      refine EReal.coe_le_coe_iff.2 ?_
      have := (pos f).isLt
      exact_mod_cast (by omega : (pos f).val ≤ 2048)
  rw [hc]
  have hlt := (pos f).isLt
  generalize (pos f).val = n at hlt
  unfold Ideal.fptosi
  have : Ideal.toIntClamped (-(2 ^ (32 - 1) : Nat)) ((2 ^ (32 - 1) : Nat) - 1) (((n : ℕ) : ℝ) : EReal) = (n : ℤ) := by
    show max _ (min _ (if (0 : ℝ) ≤ ((n : ℕ) : ℝ) then ⌊((n : ℕ) : ℝ)⌋ else ⌈((n : ℕ) : ℝ)⌉)) = _
    rw [if_pos (Nat.cast_nonneg n), Int.floor_natCast]
    push_cast
    omega
  rw [this]
  exact BitVec.ofInt_natCast 32 n

/-- What three parts of a number add up to. -/
def fix (c : EReal) : EReal := (c + (c - c)) + ((c - c) - (c - c))

theorem fix_coe (c : ℝ) : fix (c : EReal) = c := by
  unfold fix
  rw [← EReal.coe_sub, sub_self, ← EReal.coe_sub, ← EReal.coe_add, ← EReal.coe_add]
  simp

theorem fix_top : fix ⊤ = ⊥ := by simp [fix]

theorem fix_bot : fix ⊥ = ⊥ := by simp [fix]

theorem fix_mul (c : EReal) : fix c * fix c = c * c := by
  induction c using EReal.rec with
  | bot => rw [fix_bot]
  | top => rw [fix_top, EReal.bot_mul_bot, EReal.top_mul_top]
  | coe c => rw [fix_coe]

theorem fix_sub (c x : EReal) : (fix c - x) * (fix c - x) = (c - x) * (c - x) := by
  induction c using EReal.rec with
  | bot => rw [fix_bot]
  | coe c => rw [fix_coe]
  | top =>
    rw [fix_top, EReal.bot_sub, EReal.bot_mul_bot]
    induction x using EReal.rec with
    | bot => simp
    | top => simp
    | coe x => simp

theorem sq_fix (q : Vec) : sq (fun d => fix (q d)) = sq q := Finset.sum_congr rfl fun d _ => fix_mul (q d)

theorem nrm_fix (q : Vec) : nrm (fun d => fix (q d)) = nrm q := by unfold nrm; rw [sq_fix]

theorem miss_fix (r q : Vec) : miss r (fun d => fix (q d)) = miss r q := Finset.sum_congr rfl fun d _ => fix_sub (q d) (r d)

theorem sq_nonneg (c : EReal) : 0 ≤ c * c := by
  induction c using EReal.rec with
  | bot => simp
  | top => simp
  | coe c => rw [← EReal.coe_mul]; exact_mod_cast mul_self_nonneg c

theorem sq_top {q : Vec} {d : Fin 256} (h : q d * q d = ⊤) : sq q = ⊤ := by
  classical
  unfold sq
  rw [← Finset.add_sum_erase Finset.univ _ (Finset.mem_univ d), h]
  refine EReal.top_add_of_ne_bot ?_
  have : (0 : EReal) ≤ ∑ x ∈ Finset.univ.erase d, q x * q x := Finset.sum_nonneg fun k _ => sq_nonneg (q k)
  intro hb
  rw [hb] at this
  exact absurd this (by simp)

theorem eps_ne_bot : eps ≠ ⊥ := by
  unfold eps
  simp [Ideal.ofBits, Ideal.ieee]
  exact EReal.coe_ne_bot _

theorem unit_fix (q : Vec) : unit (fun d => fix (q d)) = unit q := by
  funext d
  unfold unit
  rw [nrm_fix]
  by_cases h : q d * q d = ⊤
  · have hn : nrm q = ⊤ := by unfold nrm; rw [sq_top h]; rfl
    rw [hn, EReal.top_add_of_ne_bot eps_ne_bot]
    unfold Ideal.div
    rw [if_neg (by simp), if_neg (by simp)]
    simp
  · have : fix (q d) = q d := by
      induction hq : q d using EReal.rec with
      | bot => rw [hq] at h; simp at h
      | top => rw [hq] at h; simp at h
      | coe c => exact fix_coe c
    simp only [this]

theorem rot_fix (r q : Vec) : rot r (fun d => fix (q d)) = rot r q := by
  funext d
  unfold rot turn half both
  rw [unit_fix, nrm_fix]

end Cert.Row

end
-- ==== Proof.Tile.lean ====
/- The kernel's steps on one tile of rows as functions of whole tiles. -/
module

public import proofs.«01_k».proof.Proof.Gen.KernelIdeal
public import proofs.«01_k».proof.Proof.Row
public import Idealize.ShloMosaic.PureOps.Ideal
public import Idealize.ShloMosaic.Lib.Pointwise

@[expose] public section

set_option maxRecDepth 16384

noncomputable section

namespace Cert.KernelIdeal.Tile

open Cert.KernelIdeal Cert.KernelIdeal.Gen Idealize.ShloMosaic

/-- Eight terms added four to four, two to two and one to one. -/
theorem add_eight (a b c d e f g h : EReal) :
    a + e + (c + g) + (b + f + (d + h)) = a + b + c + d + e + f + g + h := by
  ac_rfl

/-- The two halves of every row added, lanes first. -/
def lanes (y : FVec Ideal S512x256 .f32) : FVec Ideal S128x512 .f32 :=
  transpose S128x512 [1, 0] (addf (extractStridedSlice S512x128 ![0, 0] y slices_S512x256_o0_0_S512x128)
    (extractStridedSlice S512x128 ![0, 128] y slices_S512x256_o0_128_S512x128)) transposes_S512x128_p1_0_S128x512

/-- The sixteen groups of eight lanes added. -/
def deep (t : FVec Ideal S128x512 .f32) : FVec Ideal S8x512 .f32 :=
  addf (addf (addf (addf (addf (addf (addf (addf (addf (addf (addf (addf (addf (addf (addf (extractStridedSlice S8x512 ![0, 0] t slices_S128x512_o0_0_S8x512)
    (extractStridedSlice S8x512 ![8, 0] t slices_S128x512_o8_0_S8x512))
    (extractStridedSlice S8x512 ![16, 0] t slices_S128x512_o16_0_S8x512))
    (extractStridedSlice S8x512 ![24, 0] t slices_S128x512_o24_0_S8x512))
    (extractStridedSlice S8x512 ![32, 0] t slices_S128x512_o32_0_S8x512))
    (extractStridedSlice S8x512 ![40, 0] t slices_S128x512_o40_0_S8x512))
    (extractStridedSlice S8x512 ![48, 0] t slices_S128x512_o48_0_S8x512))
    (extractStridedSlice S8x512 ![56, 0] t slices_S128x512_o56_0_S8x512))
    (extractStridedSlice S8x512 ![64, 0] t slices_S128x512_o64_0_S8x512))
    (extractStridedSlice S8x512 ![72, 0] t slices_S128x512_o72_0_S8x512))
    (extractStridedSlice S8x512 ![80, 0] t slices_S128x512_o80_0_S8x512))
    (extractStridedSlice S8x512 ![88, 0] t slices_S128x512_o88_0_S8x512))
    (extractStridedSlice S8x512 ![96, 0] t slices_S128x512_o96_0_S8x512))
    (extractStridedSlice S8x512 ![104, 0] t slices_S128x512_o104_0_S8x512))
    (extractStridedSlice S8x512 ![112, 0] t slices_S128x512_o112_0_S8x512))
    (extractStridedSlice S8x512 ![120, 0] t slices_S128x512_o120_0_S8x512)

/-- Four lanes of the eight added to the other four. -/
def four (t : FVec Ideal S8x512 .f32) : FVec Ideal S4x512 .f32 :=
  addf (extractStridedSlice S4x512 ![0, 0] t slices_S8x512_o0_0_S4x512)
    (extractStridedSlice S4x512 ![4, 0] t slices_S8x512_o4_0_S4x512)

/-- Two lanes of the four added to the other two. -/
def pair (t : FVec Ideal S4x512 .f32) : FVec Ideal S2x512 .f32 :=
  addf (extractStridedSlice S2x512 ![0, 0] t slices_S4x512_o0_0_S2x512)
    (extractStridedSlice S2x512 ![2, 0] t slices_S4x512_o2_0_S2x512)

/-- The last two lanes added. -/
def last (t : FVec Ideal S2x512 .f32) : FVec Ideal S1x512 .f32 :=
  addf (extractStridedSlice S1x512 ![0, 0] t slices_S2x512_o0_0_S1x512)
    (extractStridedSlice S1x512 ![1, 0] t slices_S2x512_o1_0_S1x512)

theorem lanes_at (y : FVec Ideal S512x256 .f32) (d : Fin 128) (i : Fin 512) :
    lanes y (ix2 d i) = y (ix2 i ⟨d.val, by omega⟩) + y (ix2 i ⟨128 + d.val, by omega⟩) := by
  pointwise [lanes]

theorem deep_at (t : FVec Ideal S128x512 .f32) (r : Fin 8) (i : Fin 512) :
    deep t (ix2 r i) = ∑ k : Fin 16, t (ix2 ⟨8 * k.val + r.val, by omega⟩ i) := by
  pointwise [deep]
  simp only [Fin.sum_univ_castSucc, Fin.sum_univ_zero, zero_add, Fin.val_castSucc, Fin.val_last, Nat.mul_zero]

theorem last_at (t : FVec Ideal S8x512 .f32) (z : Fin 1) (i : Fin 512) :
    last (pair (four t)) (ix2 z i) = ∑ r : Fin 8, t (ix2 r i) := by
  pointwise [last, pair, four]
  rw [Fin.sum_univ_eight]
  exact add_eight _ _ _ _ _ _ _ _

/-- The two halves of every row added, lanes first. -/
def lanesB (y : FVec Ideal S1024x256 .f32) : FVec Ideal S128x1024 .f32 :=
  transpose S128x1024 [1, 0] (addf (extractStridedSlice S1024x128 ![0, 0] y slices_S1024x256_o0_0_S1024x128)
    (extractStridedSlice S1024x128 ![0, 128] y slices_S1024x256_o0_128_S1024x128)) transposes_S1024x128_p1_0_S128x1024

/-- The sixteen groups of eight lanes added. -/
def deepB (t : FVec Ideal S128x1024 .f32) : FVec Ideal S8x1024 .f32 :=
  addf (addf (addf (addf (addf (addf (addf (addf (addf (addf (addf (addf (addf (addf (addf (extractStridedSlice S8x1024 ![0, 0] t slices_S128x1024_o0_0_S8x1024)
    (extractStridedSlice S8x1024 ![8, 0] t slices_S128x1024_o8_0_S8x1024))
    (extractStridedSlice S8x1024 ![16, 0] t slices_S128x1024_o16_0_S8x1024))
    (extractStridedSlice S8x1024 ![24, 0] t slices_S128x1024_o24_0_S8x1024))
    (extractStridedSlice S8x1024 ![32, 0] t slices_S128x1024_o32_0_S8x1024))
    (extractStridedSlice S8x1024 ![40, 0] t slices_S128x1024_o40_0_S8x1024))
    (extractStridedSlice S8x1024 ![48, 0] t slices_S128x1024_o48_0_S8x1024))
    (extractStridedSlice S8x1024 ![56, 0] t slices_S128x1024_o56_0_S8x1024))
    (extractStridedSlice S8x1024 ![64, 0] t slices_S128x1024_o64_0_S8x1024))
    (extractStridedSlice S8x1024 ![72, 0] t slices_S128x1024_o72_0_S8x1024))
    (extractStridedSlice S8x1024 ![80, 0] t slices_S128x1024_o80_0_S8x1024))
    (extractStridedSlice S8x1024 ![88, 0] t slices_S128x1024_o88_0_S8x1024))
    (extractStridedSlice S8x1024 ![96, 0] t slices_S128x1024_o96_0_S8x1024))
    (extractStridedSlice S8x1024 ![104, 0] t slices_S128x1024_o104_0_S8x1024))
    (extractStridedSlice S8x1024 ![112, 0] t slices_S128x1024_o112_0_S8x1024))
    (extractStridedSlice S8x1024 ![120, 0] t slices_S128x1024_o120_0_S8x1024)

/-- Four lanes of the eight added to the other four. -/
def fourB (t : FVec Ideal S8x1024 .f32) : FVec Ideal S4x1024 .f32 :=
  addf (extractStridedSlice S4x1024 ![0, 0] t slices_S8x1024_o0_0_S4x1024)
    (extractStridedSlice S4x1024 ![4, 0] t slices_S8x1024_o4_0_S4x1024)

/-- Two lanes of the four added to the other two. -/
def pairB (t : FVec Ideal S4x1024 .f32) : FVec Ideal S2x1024 .f32 :=
  addf (extractStridedSlice S2x1024 ![0, 0] t slices_S4x1024_o0_0_S2x1024)
    (extractStridedSlice S2x1024 ![2, 0] t slices_S4x1024_o2_0_S2x1024)

/-- The last two lanes added. -/
def lastB (t : FVec Ideal S2x1024 .f32) : FVec Ideal S1x1024 .f32 :=
  addf (extractStridedSlice S1x1024 ![0, 0] t slices_S2x1024_o0_0_S1x1024)
    (extractStridedSlice S1x1024 ![1, 0] t slices_S2x1024_o1_0_S1x1024)

theorem lanesB_at (y : FVec Ideal S1024x256 .f32) (d : Fin 128) (i : Fin 1024) :
    lanesB y (ix2 d i) = y (ix2 i ⟨d.val, by omega⟩) + y (ix2 i ⟨128 + d.val, by omega⟩) := by
  pointwise [lanesB]

theorem deepB_at (t : FVec Ideal S128x1024 .f32) (r : Fin 8) (i : Fin 1024) :
    deepB t (ix2 r i) = ∑ k : Fin 16, t (ix2 ⟨8 * k.val + r.val, by omega⟩ i) := by
  pointwise [deepB]
  simp only [Fin.sum_univ_castSucc, Fin.sum_univ_zero, zero_add, Fin.val_castSucc, Fin.val_last, Nat.mul_zero]

theorem lastB_at (t : FVec Ideal S8x1024 .f32) (z : Fin 1) (i : Fin 1024) :
    lastB (pairB (fourB t)) (ix2 z i) = ∑ r : Fin 8, t (ix2 r i) := by
  pointwise [lastB, pairB, fourB]
  rw [Fin.sum_univ_eight]
  exact add_eight _ _ _ _ _ _ _ _

/-- The sum of every row of a tile. -/
def rowsum (y : FVec Ideal S512x256 .f32) : FVec Ideal S512x1 .f32 :=
  transpose S512x1 [1, 0] (last (pair (four (deep (lanes y))))) transposes_S1x512_p1_0_S512x1

/-- The squared length of every code of a codebook. -/
def lens (e : FVec Ideal S1x1024x256 .f32) : FVec Ideal S1x1024 .f32 :=
  let c := shapeCast S1024x256 e shapeCasts_S1x1024x256_S1024x256
  shapeCast S1x1024 (lastB (pairB (fourB (deepB (lanesB (mulf c c)))))) shapeCasts_S1x1024_S1x1024

/-- Twice the rows times the codes. -/
def cross (x : FVec Ideal S512x256 .f32) (h : FVec Ideal S1024x256 .bf16) : FVec Ideal S512x1024 .f32 :=
  matmul dot_S512x256_S1024x256_S512x1024_1_1_0_0_n_n none
    (truncf .bf16 (mulf (broadcast S512x256 (Scalar.ofBits .f32 0x40000000#32)) x) bitsLt_bf16_f32) h
    (constant S512x1024 .f32 0x00000000#32)

/-- The squared distance of every row to every code. -/
def dist (x : FVec Ideal S512x256 .f32) (h : FVec Ideal S1024x256 .bf16) (l : FVec Ideal S1x1024 .f32) : FVec Ideal S512x1024 .f32 :=
  addf (subf (broadcastTo S512x1024 (rowsum (mulf x x)) broadcasts_S512x1_S512x1024) (cross x h))
    (broadcastTo S512x1024 l broadcasts_S1x1024_S512x1024)

/-- The least entry of every row. -/
def least (d : FVec Ideal S512x1024 .f32) : FVec Ideal S512x1 .f32 :=
  shapeCast S512x1 (multiReduction .minimumf [1] S512 d 0x7F800000#32 reduces_S512x1024_S512 (.inl rfl) rfl) shapeCasts_S512_S512x1

/-- The position of the least distance of every row. -/
def arg (d : FVec Ideal S512x1024 .f32) : IVec S512x1 32 :=
  fptosi 32 (least (select (cmpf .oeq d (broadcastTo S512x1024 (least d) broadcasts_S512x1_S512x1024))
    (sitofp .f32 (iota .tc S512x1024 32 [1] iota_S512x1024_d1_w32)) (broadcast S512x1024 (Scalar.ofBits .f32 0x45000000#32))))

/-- A product with the table that has a one at the position of every row. -/
def pick (a : IVec S512x1 32) (e : FVec Ideal S1024x256 .bf16) : FVec Ideal S512x256 .f32 :=
  matmul dot_S512x1024_S1024x256_S512x256_1_0_0_1_n_n none
    (truncf .bf16 (sitofp .f32 (extui 32 (cmpi .eq (iota .tc S512x1024 32 [1] iota_S512x1024_d1_w32)
      (broadcastTo S512x1024 a broadcasts_S512x1_S512x1024)) natLt_1_32)) bitsLt_bf16_f32) e (constant S512x256 .f32 0x00000000#32)

/-- The codes at the positions, from their three parts. -/
def quant (a : IVec S512x1 32) (h m l : FVec Ideal S1024x256 .bf16) : FVec Ideal S512x256 .f32 :=
  addf (addf (pick a h) (pick a m)) (pick a l)

/-- A tile's share of the mean squared difference. -/
def loss (x q : FVec Ideal S512x256 .f32) : FVec Ideal S1x1 .f32 :=
  mulf (broadcast S1x1 (extractAt ![0, 0, 0] (shapeCast S1x1x1 (multiReduction .add [1, 2] S1
      (shapeCast S1x512x256 (mulf (subf q x) (subf q x)) shapeCasts_S512x256_S1x512x256) 0x00000000#32
      reduces_S1x512x256_S1 (.inl rfl) rfl) shapeCasts_S1_S1x1x1) inpos_S1x1x1_p0_0_0))
    (broadcast S1x1 (Named.named κ "inv_n" 0x35638E39#32))

/-- The length of every row. -/
def norm (x : FVec Ideal S512x256 .f32) : FVec Ideal S512x1 .f32 := sqrt (rowsum (mulf x x))

/-- A column plus the small number. -/
def off (n : FVec Ideal S512x1 .f32) : FVec Ideal S512x1 .f32 := addf n (broadcast S512x1 (Scalar.ofBits .f32 0x358637BD#32))

/-- Every row over its length. -/
def unit (x : FVec Ideal S512x256 .f32) : FVec Ideal S512x256 .f32 :=
  divf x (broadcastTo S512x256 (off (norm x)) broadcasts_S512x1_S512x256)

/-- The direction half way. -/
def half (x q : FVec Ideal S512x256 .f32) : FVec Ideal S512x256 .f32 :=
  divf (addf (unit x) (unit q)) (broadcastTo S512x256 (norm (addf (unit x) (unit q))) broadcasts_S512x1_S512x256)

/-- Twice a column, times rows. -/
def twice (n : FVec Ideal S512x1 .f32) (w : FVec Ideal S512x256 .f32) : FVec Ideal S512x256 .f32 :=
  mulf (broadcastTo S512x256 (mulf (broadcast S512x1 (Scalar.ofBits .f32 0x40000000#32)) n) broadcasts_S512x1_S512x256) w

/-- The rotated rows. -/
def rot (x q : FVec Ideal S512x256 .f32) : FVec Ideal S512x256 .f32 :=
  mulf (addf (subf x (twice (rowsum (mulf x (half x q))) (half x q))) (twice (rowsum (mulf x (unit x))) (unit q)))
    (broadcastTo S512x256 (divf (norm q) (off (norm x))) broadcasts_S512x1_S512x256)

/-- A sum over a row, taken lane by lane: the two halves, and in each half the groups of eight. -/
theorem sum_lanes (f : Fin 256 → EReal) :
    ∑ r : Fin 8, ∑ k : Fin 16, (f ⟨8 * k.val + r.val, by omega⟩ + f ⟨128 + (8 * k.val + r.val), by omega⟩) = ∑ d, f d := by
  have h2 : ∑ d, f d = ∑ d : Fin 128, (f ⟨d.val, by omega⟩ + f ⟨128 + d.val, by omega⟩) := by
    rw [Finset.sum_add_distrib]
    exact Fin.sum_univ_add (a := 128) (b := 128) f
  rw [h2, Finset.sum_comm, Fin.sum_univ_tiles 16 8 rfl]
  rfl

theorem rowsum_at (y : FVec Ideal S512x256 .f32) (i : Fin 512) (z : Fin 1) : rowsum y (ix2 i z) = ∑ d, y (ix2 i d) := by
  pointwise [rowsum, last_at, deep_at, lanes_at]
  exact sum_lanes fun d => y (ix2 i d)

theorem lens_at (e : FVec Ideal S1x1024x256 .f32) (z : Fin 1) (j : Fin 1024) :
    lens e (ix2 z j) = Row.sq fun d => e (ix3 0 j d) := by
  pointwise [lens, lastB_at, deepB_at, lanesB_at]
  exact sum_lanes fun d => e (ix3 0 j d) * e (ix3 0 j d)

theorem cross_at (x : FVec Ideal S512x256 .f32) (h : FVec Ideal S1024x256 .bf16) (i : Fin 512) (j : Fin 1024) :
    cross x h (ix2 i j) = ∑ d, (Row.two * x (ix2 i d)) * h (ix2 j d) := by
  pointwise [cross, Row.two]

theorem dist_at (x : FVec Ideal S512x256 .f32) (h : FVec Ideal S1024x256 .bf16) (l : FVec Ideal S1x1024 .f32) (i : Fin 512)
    (j : Fin 1024) : dist x h l (ix2 i j)
      = ((Row.sq fun d => x (ix2 i d)) - ∑ d, (Row.two * x (ix2 i d)) * h (ix2 j d)) + l (ix2 0 j) := by
  pointwise [dist, rowsum_at, cross_at, Row.sq]

theorem inf_bits : Ideal.ofBits .f32 0x7F800000#32 = ⊤ := by
  simp [Ideal.ofBits, Ideal.ieee]

theorem limit_bits : Ideal.ofBits .f32 0x45000000#32 = ((2048 : ℝ) : EReal) := by
  simp [Ideal.ofBits, Ideal.ieee]
  rw [← EReal.coe_mul]
  congr 1
  norm_num

theorem toInt_pos {n : ℕ} (h : n < 1024) : (BitVec.ofNat 32 n).toInt = n := by
  rw [BitVec.toInt_eq_toNat_of_lt]
  · rw [BitVec.toNat_ofNat, Nat.mod_eq_of_lt (by omega)]
  · rw [BitVec.toNat_ofNat, Nat.mod_eq_of_lt (by omega)]
    omega

/-- A position, read as a number. -/
theorem count_at (j : Fin 1024) : FloatOps.sitofp (F := Ideal) .f32 (BitVec.ofNat 32 j.val) = (((j.val : ℕ) : ℝ) : EReal) := by
  show (((BitVec.ofNat 32 j.val).toInt : ℝ) : EReal) = _
  rw [toInt_pos j.isLt]
  norm_cast

/-- The entry of the table of ones: one at the position, zero elsewhere. -/
theorem one_at (j n : Fin 1024) :
    FloatOps.sitofp (F := Ideal) .f32 (BitVec.setWidth 32 (IntOp.cmpi CmpIPredicate.eq (BitVec.ofNat 32 j.val) (BitVec.ofNat 32 n.val)))
      = if j = n then (1 : EReal) else 0 := by
  show (((BitVec.setWidth 32 (IntOp.cmpi CmpIPredicate.eq (BitVec.ofNat 32 j.val) (BitVec.ofNat 32 n.val))).toInt : ℝ) : EReal) = _
  by_cases h : j = n
  · subst h
    simp [IntOp.cmpi]
  · have hne : BitVec.ofNat 32 j.val ≠ BitVec.ofNat 32 n.val := fun e => h <| Fin.ext <| by
      have := congrArg BitVec.toNat e
      simp only [BitVec.toNat_ofNat] at this
      omega
    simp [IntOp.cmpi, h, beq_eq_false_iff_ne.2 hne]

theorem least_at (d : FVec Ideal S512x1024 .f32) (i : Fin 512) (z : Fin 1) :
    least d (ix2 i z) = Finset.univ.fold min ⊤ fun j => d (ix2 i j) := by
  pointwise [least]
  rw [inf_bits]

theorem arg_at (d : FVec Ideal S512x1024 .f32) (i : Fin 512) (z : Fin 1) :
    arg d (ix2 i z) = BitVec.ofNat 32 (Row.pos fun j => d (ix2 i j)).val := by
  pointwise [arg, least_at]
  simp only [count_at]
  exact Row.pos_of_folds _ _ limit_bits

theorem pick_at (a : IVec S512x1 32) (e : FVec Ideal S1024x256 .bf16) (i : Fin 512) (d : Fin 256) (n : Fin 1024)
    (ha : a (ix2 i 0) = BitVec.ofNat 32 n.val) : pick a e (ix2 i d) = e (ix2 n d) := by
  pointwise [pick]
  simp only [ha, one_at]
  rw [Finset.sum_eq_single n (fun j _ hj => by rw [if_neg hj, zero_mul]) (fun h => absurd (Finset.mem_univ n) h), if_pos rfl, one_mul]

theorem loss_at (x q : FVec Ideal S512x256 .f32) (z z' : Fin 1) :
    loss x q (ix2 z z') = (∑ i, Row.miss (fun d => x (ix2 i d)) (fun d => q (ix2 i d))) * ((1 / 1179648 : ℝ) : EReal) := by
  pointwise [loss, Row.miss]
  congr 1

theorem norm_at (x : FVec Ideal S512x256 .f32) (i : Fin 512) (z : Fin 1) : norm x (ix2 i z) = Row.nrm fun d => x (ix2 i d) := by
  pointwise [norm, rowsum_at, Row.nrm, Row.sq]

theorem off_at (n : FVec Ideal S512x1 .f32) (i : Fin 512) (z : Fin 1) : off n (ix2 i z) = n (ix2 i z) + Row.eps := by
  pointwise [off, Row.eps]

theorem unit_at (x : FVec Ideal S512x256 .f32) (i : Fin 512) (d : Fin 256) :
    unit x (ix2 i d) = Row.unit (fun d => x (ix2 i d)) d := by
  pointwise [unit, off_at, norm_at, Row.unit]

theorem half_at (x q : FVec Ideal S512x256 .f32) (i : Fin 512) (d : Fin 256) :
    half x q (ix2 i d) = Row.half (fun d => x (ix2 i d)) (fun d => q (ix2 i d)) d := by
  pointwise [half, unit_at, norm_at, Row.half, Row.both]
  rfl

theorem twice_at (n : FVec Ideal S512x1 .f32) (w : FVec Ideal S512x256 .f32) (i : Fin 512) (d : Fin 256) :
    twice n w (ix2 i d) = (Row.two * n (ix2 i 0)) * w (ix2 i d) := by
  pointwise [twice, Row.two]

theorem rot_at (x q : FVec Ideal S512x256 .f32) (i : Fin 512) (d : Fin 256) :
    rot x q (ix2 i d) = Row.rot (fun d => x (ix2 i d)) (fun d => q (ix2 i d)) d := by
  pointwise [rot, twice_at, rowsum_at, half_at, unit_at, norm_at, off_at, Row.rot, Row.turn, Row.dot]

end Cert.KernelIdeal.Tile

end
-- ==== Proof.Pay.lean ====
/- The kernel's cut pieces as the whole-tile functions. -/
module

public import proofs.«01_k».proof.Proof.Tile
public import proofs.«01_k».proof.Proof.Gen.KernelIdeal.Skeleton

@[expose] public section

set_option maxRecDepth 16384
set_option maxHeartbeats 40000

noncomputable section

namespace Cert.KernelIdeal.Tile

open Cert.KernelIdeal Cert.KernelIdeal.Gen Idealize.ShloMosaic

/-- The first eight groups of eight lanes added. -/
def eight (t : FVec Ideal S128x512 .f32) : FVec Ideal S8x512 .f32 :=
  addf (addf (addf (addf (addf (addf (addf (extractStridedSlice S8x512 ![0, 0] t slices_S128x512_o0_0_S8x512)
    (extractStridedSlice S8x512 ![8, 0] t slices_S128x512_o8_0_S8x512))
    (extractStridedSlice S8x512 ![16, 0] t slices_S128x512_o16_0_S8x512))
    (extractStridedSlice S8x512 ![24, 0] t slices_S128x512_o24_0_S8x512))
    (extractStridedSlice S8x512 ![32, 0] t slices_S128x512_o32_0_S8x512))
    (extractStridedSlice S8x512 ![40, 0] t slices_S128x512_o40_0_S8x512))
    (extractStridedSlice S8x512 ![48, 0] t slices_S128x512_o48_0_S8x512))
    (extractStridedSlice S8x512 ![56, 0] t slices_S128x512_o56_0_S8x512)

/-- The first ten groups of eight lanes added. -/
def ten (t : FVec Ideal S128x512 .f32) : FVec Ideal S8x512 .f32 :=
  addf (addf (addf (addf (addf (addf (addf (addf (addf (extractStridedSlice S8x512 ![0, 0] t slices_S128x512_o0_0_S8x512)
    (extractStridedSlice S8x512 ![8, 0] t slices_S128x512_o8_0_S8x512))
    (extractStridedSlice S8x512 ![16, 0] t slices_S128x512_o16_0_S8x512))
    (extractStridedSlice S8x512 ![24, 0] t slices_S128x512_o24_0_S8x512))
    (extractStridedSlice S8x512 ![32, 0] t slices_S128x512_o32_0_S8x512))
    (extractStridedSlice S8x512 ![40, 0] t slices_S128x512_o40_0_S8x512))
    (extractStridedSlice S8x512 ![48, 0] t slices_S128x512_o48_0_S8x512))
    (extractStridedSlice S8x512 ![56, 0] t slices_S128x512_o56_0_S8x512))
    (extractStridedSlice S8x512 ![64, 0] t slices_S128x512_o64_0_S8x512))
    (extractStridedSlice S8x512 ![72, 0] t slices_S128x512_o72_0_S8x512)

/-- The first eleven groups of eight lanes added. -/
def eleven (t : FVec Ideal S128x512 .f32) : FVec Ideal S8x512 .f32 :=
  addf (addf (addf (addf (addf (addf (addf (addf (addf (addf (extractStridedSlice S8x512 ![0, 0] t slices_S128x512_o0_0_S8x512)
    (extractStridedSlice S8x512 ![8, 0] t slices_S128x512_o8_0_S8x512))
    (extractStridedSlice S8x512 ![16, 0] t slices_S128x512_o16_0_S8x512))
    (extractStridedSlice S8x512 ![24, 0] t slices_S128x512_o24_0_S8x512))
    (extractStridedSlice S8x512 ![32, 0] t slices_S128x512_o32_0_S8x512))
    (extractStridedSlice S8x512 ![40, 0] t slices_S128x512_o40_0_S8x512))
    (extractStridedSlice S8x512 ![48, 0] t slices_S128x512_o48_0_S8x512))
    (extractStridedSlice S8x512 ![56, 0] t slices_S128x512_o56_0_S8x512))
    (extractStridedSlice S8x512 ![64, 0] t slices_S128x512_o64_0_S8x512))
    (extractStridedSlice S8x512 ![72, 0] t slices_S128x512_o72_0_S8x512))
    (extractStridedSlice S8x512 ![80, 0] t slices_S128x512_o80_0_S8x512)

/-- One group of eight lanes. -/
def group0 (t : FVec Ideal S128x512 .f32) : FVec Ideal S8x512 .f32 := extractStridedSlice S8x512 ![0, 0] t slices_S128x512_o0_0_S8x512

@[inherit_doc group0]
def group8 (t : FVec Ideal S128x512 .f32) : FVec Ideal S8x512 .f32 := extractStridedSlice S8x512 ![8, 0] t slices_S128x512_o8_0_S8x512

@[inherit_doc group0]
def group64 (t : FVec Ideal S128x512 .f32) : FVec Ideal S8x512 .f32 := extractStridedSlice S8x512 ![64, 0] t slices_S128x512_o64_0_S8x512

/-- The first four lanes of eight. -/
def front (t : FVec Ideal S8x512 .f32) : FVec Ideal S4x512 .f32 := extractStridedSlice S4x512 ![0, 0] t slices_S8x512_o0_0_S4x512

/-- A codebook as a matrix. -/
def book (v : FVec Ideal S1x1024x256 .bf16) : FVec Ideal S1024x256 .bf16 := shapeCast S1024x256 v shapeCasts_S1x1024x256_S1024x256

/-- The block of rows. -/
def rows (v : FVec Ideal S512x256 .f32) : FVec Ideal S512x256 .f32 := shapeCast S512x256 v shapeCasts_S512x256_S512x256

/-- The squared differences of a tile added. -/
def gap (x q : FVec Ideal S512x256 .f32) : FVec Ideal S1x1x1 .f32 :=
  shapeCast S1x1x1 (multiReduction .add [1, 2] S1
      (shapeCast S1x512x256 (mulf (subf q x) (subf q x)) shapeCasts_S512x256_S1x512x256) 0x00000000#32
      reduces_S1x512x256_S1 (.inl rfl) rfl) shapeCasts_S1_S1x1x1

/-- The tile of zeros. -/
def zeros : FVec Ideal S512x256 .f32 := broadcast S512x256 (Scalar.ofBits .f32 0x00000000#32)

section
variable (x q u s o : FVec Ideal S512x256 .f32) (h m l : FVec Ideal S1024x256 .bf16) (e : FVec Ideal S1x1024 .f32)
  (d : FVec Ideal S512x1024 .f32) (y : FVec Ideal S128x512 .f32) (v : FVec Ideal S1x1024x256 .bf16) (w : FVec Ideal S1x1024x256 .f32)

theorem pay15 : k0_pay15 x = rows x := rfl

theorem pay16 : k0_pay16 (F := Ideal) = zeros := rfl

theorem pay18 : k0_pay18 v = book v := rfl

theorem pay19 : k0_pay19 v = book v := rfl

theorem pay20 : k0_pay20 v = book v := rfl

theorem pay45 : k0_pay45 v = book v := rfl

theorem pay46 : k0_pay46 v = book v := rfl

theorem pay47 : k0_pay47 v = book v := rfl

theorem pay70 : k0_pay70 v = book v := rfl

theorem pay71 : k0_pay71 v = book v := rfl

theorem pay72 : k0_pay72 v = book v := rfl

theorem pay97 : k0_pay97 v = book v := rfl

theorem pay98 : k0_pay98 v = book v := rfl

theorem pay99 : k0_pay99 v = book v := rfl

theorem pay21 : k0_pay21 x v = cross (rows x) (book v) := rfl

theorem pay22 : k0_pay22 x = lanes (mulf (rows x) (rows x)) := rfl

theorem pay23 : k0_pay23 x = ten (lanes (mulf (rows x) (rows x))) := rfl

theorem pay24 : k0_pay24 (lanes (mulf x x)) (ten (lanes (mulf x x))) = rowsum (mulf x x) := rfl

theorem pay25 : k0_pay25 (k0_pay17 (F := Ideal)) (cross x h) (lanes (mulf x x)) (ten (lanes (mulf x x))) e = arg (dist x h e) := rfl

theorem pay26 (p : IVec S512x1024 32) (hp : p = iota .tc S512x1024 32 [1] iota_S512x1024_d1_w32) :
    k0_pay26 p (k0_pay17 (F := Ideal)) h m l (cross x h) (lanes (mulf x x)) (ten (lanes (mulf x x))) e = quant (arg (dist x h e)) h m l := by
  subst hp
  rfl

theorem pay27 (p : IVec S512x1024 32) (hp : p = iota .tc S512x1024 32 [1] iota_S512x1024_d1_w32) :
    k0_pay27 x p (k0_pay17 (F := Ideal)) h m l (cross x h) (lanes (mulf x x)) (ten (lanes (mulf x x))) e = gap x (quant (arg (dist x h e)) h m l) := by
  subst hp
  rfl

theorem pay28 : k0_pay28 (gap x q) = loss x q := rfl

theorem pay29 : k0_pay29 (rowsum (mulf x x)) = norm x := rfl

theorem pay30 : k0_pay30 q = norm q := rfl

theorem pay31 : k0_pay31 x (rowsum (mulf x x)) = unit x := rfl

theorem pay33 : k0_pay33 q (norm q) (k0_pay32 (F := Ideal)) = unit q := rfl

theorem pay34 : k0_pay34 q (norm q) (unit x) (k0_pay32 (F := Ideal)) = half x q := rfl

theorem pay35 : k0_pay35 x q (norm q) (unit x) (k0_pay32 (F := Ideal)) = lanes (mulf x (half x q)) := rfl

theorem pay36 : k0_pay36 x q (norm q) (unit x) (k0_pay32 (F := Ideal)) = group0 (lanes (mulf x (half x q))) := rfl

theorem pay37 : k0_pay37 x q (norm q) (unit x) (k0_pay32 (F := Ideal)) = group8 (lanes (mulf x (half x q))) := rfl

theorem pay38 : k0_pay38 (lanes (mulf x u)) (group0 (lanes (mulf x u))) (group8 (lanes (mulf x u))) = rowsum (mulf x u) := rfl

theorem pay39 : k0_pay39 x u = lanes (mulf x u) := rfl

theorem pay40 : k0_pay40 x u = eight (lanes (mulf x u)) := rfl

theorem pay41 : k0_pay41 x u = group64 (lanes (mulf x u)) := rfl

theorem pay42 : k0_pay42 x (norm x) (norm q) (unit q) (half x q) (rowsum (mulf x (half x q))) (lanes (mulf x (unit x))) (eight (lanes (mulf x (unit x)))) (group64 (lanes (mulf x (unit x)))) = rot x q := rfl

theorem pay43 : k0_pay43 x (norm x) (norm q) (unit q) (half x q) (rowsum (mulf x (half x q))) (lanes (mulf x (unit x))) (eight (lanes (mulf x (unit x)))) (group64 (lanes (mulf x (unit x)))) = subf x (rot x q) := rfl

theorem pay44 : k0_pay44 x o (norm x) (norm q) (unit q) (half x q) (rowsum (mulf x (half x q))) (lanes (mulf x (unit x))) (eight (lanes (mulf x (unit x)))) (group64 (lanes (mulf x (unit x)))) = addf o (rot x q) := rfl

theorem pay76 : k0_pay76 (lanes (mulf x x)) (ten (lanes (mulf x x))) = rowsum (mulf x x) := rfl

theorem pay77 : k0_pay77 (k0_pay17 (F := Ideal)) (cross x h) (lanes (mulf x x)) (ten (lanes (mulf x x))) e = arg (dist x h e) := rfl

theorem pay78 (p : IVec S512x1024 32) (hp : p = iota .tc S512x1024 32 [1] iota_S512x1024_d1_w32) :
    k0_pay78 p (k0_pay17 (F := Ideal)) h m l (cross x h) (lanes (mulf x x)) (ten (lanes (mulf x x))) e = quant (arg (dist x h e)) h m l := by
  subst hp
  rfl

theorem pay79 (p : IVec S512x1024 32) (hp : p = iota .tc S512x1024 32 [1] iota_S512x1024_d1_w32) :
    k0_pay79 p (k0_pay17 (F := Ideal)) x h m l (cross x h) (lanes (mulf x x)) (ten (lanes (mulf x x))) e = gap x (quant (arg (dist x h e)) h m l) := by
  subst hp
  rfl

theorem pay80 : k0_pay80 (gap x q) = loss x q := rfl

theorem pay81 : k0_pay81 (rowsum (mulf x x)) = norm x := rfl

theorem pay82 : k0_pay82 q = norm q := rfl

theorem pay83 : k0_pay83 x (rowsum (mulf x x)) = unit x := rfl

theorem pay85 : k0_pay85 q (norm q) (k0_pay32 (F := Ideal)) = unit q := rfl

theorem pay86 : k0_pay86 q (norm q) (unit x) (k0_pay32 (F := Ideal)) = half x q := rfl

theorem pay87 : k0_pay87 x q (norm q) (unit x) (k0_pay32 (F := Ideal)) = lanes (mulf x (half x q)) := rfl

theorem pay88 : k0_pay88 x q (norm q) (unit x) (k0_pay32 (F := Ideal)) = group0 (lanes (mulf x (half x q))) := rfl

theorem pay89 : k0_pay89 x q (norm q) (unit x) (k0_pay32 (F := Ideal)) = group8 (lanes (mulf x (half x q))) := rfl

theorem pay90 : k0_pay90 (lanes (mulf x u)) (group0 (lanes (mulf x u))) (group8 (lanes (mulf x u))) = rowsum (mulf x u) := rfl

theorem pay91 : k0_pay91 x u = lanes (mulf x u) := rfl

theorem pay92 : k0_pay92 x u = eight (lanes (mulf x u)) := rfl

theorem pay93 : k0_pay93 x u = group64 (lanes (mulf x u)) := rfl

theorem pay94 : k0_pay94 x (norm x) (norm q) (unit q) (half x q) (rowsum (mulf x (half x q))) (lanes (mulf x (unit x))) (eight (lanes (mulf x (unit x)))) (group64 (lanes (mulf x (unit x)))) = rot x q := rfl

theorem pay95 : k0_pay95 x (norm x) (norm q) (unit q) (half x q) (rowsum (mulf x (half x q))) (lanes (mulf x (unit x))) (eight (lanes (mulf x (unit x)))) (group64 (lanes (mulf x (unit x)))) = subf x (rot x q) := rfl

theorem pay96 : k0_pay96 x o (norm x) (norm q) (unit q) (half x q) (rowsum (mulf x (half x q))) (lanes (mulf x (unit x))) (eight (lanes (mulf x (unit x)))) (group64 (lanes (mulf x (unit x)))) = addf o (rot x q) := rfl

theorem pay32b : k0_pay84 (F := Ideal) = k0_pay32 := rfl

theorem pay48 : k0_pay48 x = rowsum (mulf x x) := rfl

theorem pay49 : k0_pay49 x h e = dist x h e := rfl

theorem pay50 : k0_pay50 (k0_pay17 (F := Ideal)) d = arg d := rfl

theorem pay51 (p : IVec S512x1024 32) (hp : p = iota .tc S512x1024 32 [1] iota_S512x1024_d1_w32) :
    k0_pay51 p (k0_pay17 (F := Ideal)) h m l d = quant (arg d) h m l := by
  subst hp
  rfl

theorem pay52 (p : IVec S512x1024 32) (hp : p = iota .tc S512x1024 32 [1] iota_S512x1024_d1_w32) :
    k0_pay52 p (k0_pay17 (F := Ideal)) x h m l d = loss x (quant (arg d) h m l) := by
  subst hp
  rfl

theorem pay53 : k0_pay53 (rowsum (mulf x x)) = norm x := rfl

theorem pay54 (p : IVec S512x1024 32) (hp : p = iota .tc S512x1024 32 [1] iota_S512x1024_d1_w32) :
    k0_pay54 p (k0_pay17 (F := Ideal)) h m l d = lanes (mulf (quant (arg d) h m l) (quant (arg d) h m l)) := by
  subst hp
  rfl

theorem pay55 (p : IVec S512x1024 32) (hp : p = iota .tc S512x1024 32 [1] iota_S512x1024_d1_w32) :
    k0_pay55 p (k0_pay17 (F := Ideal)) h m l d = ten (lanes (mulf (quant (arg d) h m l) (quant (arg d) h m l))) := by
  subst hp
  rfl

theorem pay56 : k0_pay56 (lanes (mulf q q)) (ten (lanes (mulf q q))) = norm q := rfl

theorem pay57 : k0_pay57 x (norm x) = unit x := rfl

theorem pay58 : k0_pay58 q (lanes (mulf q q)) (ten (lanes (mulf q q))) = unit q := rfl

theorem pay59 : k0_pay59 x q (norm x) (lanes (mulf q q)) (ten (lanes (mulf q q))) = addf (unit x) (unit q) := rfl

theorem pay60 : k0_pay60 x q (norm x) (lanes (mulf q q)) (ten (lanes (mulf q q))) = lanes (mulf (addf (unit x) (unit q)) (addf (unit x) (unit q))) := rfl

theorem pay61 : k0_pay61 x q (norm x) (lanes (mulf q q)) (ten (lanes (mulf q q))) = eleven (lanes (mulf (addf (unit x) (unit q)) (addf (unit x) (unit q)))) := rfl

theorem pay62 : k0_pay62 (addf (unit x) (unit q)) (lanes (mulf (addf (unit x) (unit q)) (addf (unit x) (unit q)))) (eleven (lanes (mulf (addf (unit x) (unit q)) (addf (unit x) (unit q))))) = half x q := rfl

theorem pay63 : k0_pay63 x (addf (unit x) (unit q)) (lanes (mulf (addf (unit x) (unit q)) (addf (unit x) (unit q)))) (eleven (lanes (mulf (addf (unit x) (unit q)) (addf (unit x) (unit q))))) = deep (lanes (mulf x (half x q))) := rfl

theorem pay64 : k0_pay64 x (addf (unit x) (unit q)) (lanes (mulf (addf (unit x) (unit q)) (addf (unit x) (unit q)))) (eleven (lanes (mulf (addf (unit x) (unit q)) (addf (unit x) (unit q))))) = front (deep (lanes (mulf x (half x q)))) := rfl

theorem pay65 : k0_pay65 x u = rowsum (mulf x u) := rfl

theorem pay66 : k0_pay66 (half x q) (deep (lanes (mulf x (half x q)))) (front (deep (lanes (mulf x (half x q))))) = twice (rowsum (mulf x (half x q))) (half x q) := rfl

theorem pay100 : k0_pay100 x = rowsum (mulf x x) := rfl

theorem pay101 : k0_pay101 x h e = dist x h e := rfl

theorem pay102 : k0_pay102 (k0_pay17 (F := Ideal)) d = arg d := rfl

theorem pay103 (p : IVec S512x1024 32) (hp : p = iota .tc S512x1024 32 [1] iota_S512x1024_d1_w32) :
    k0_pay103 p (k0_pay17 (F := Ideal)) h m l d = quant (arg d) h m l := by
  subst hp
  rfl

theorem pay104 (p : IVec S512x1024 32) (hp : p = iota .tc S512x1024 32 [1] iota_S512x1024_d1_w32) :
    k0_pay104 p (k0_pay17 (F := Ideal)) x h m l d = loss x (quant (arg d) h m l) := by
  subst hp
  rfl

theorem pay105 : k0_pay105 (rowsum (mulf x x)) = norm x := rfl

theorem pay106 (p : IVec S512x1024 32) (hp : p = iota .tc S512x1024 32 [1] iota_S512x1024_d1_w32) :
    k0_pay106 p (k0_pay17 (F := Ideal)) h m l d = lanes (mulf (quant (arg d) h m l) (quant (arg d) h m l)) := by
  subst hp
  rfl

theorem pay107 (p : IVec S512x1024 32) (hp : p = iota .tc S512x1024 32 [1] iota_S512x1024_d1_w32) :
    k0_pay107 p (k0_pay17 (F := Ideal)) h m l d = ten (lanes (mulf (quant (arg d) h m l) (quant (arg d) h m l))) := by
  subst hp
  rfl

theorem pay108 : k0_pay108 (lanes (mulf q q)) (ten (lanes (mulf q q))) = norm q := rfl

theorem pay109 : k0_pay109 x (norm x) = unit x := rfl

theorem pay110 : k0_pay110 q (lanes (mulf q q)) (ten (lanes (mulf q q))) = unit q := rfl

theorem pay111 : k0_pay111 x q (norm x) (lanes (mulf q q)) (ten (lanes (mulf q q))) = addf (unit x) (unit q) := rfl

theorem pay112 : k0_pay112 x q (norm x) (lanes (mulf q q)) (ten (lanes (mulf q q))) = lanes (mulf (addf (unit x) (unit q)) (addf (unit x) (unit q))) := rfl

theorem pay113 : k0_pay113 x q (norm x) (lanes (mulf q q)) (ten (lanes (mulf q q))) = eleven (lanes (mulf (addf (unit x) (unit q)) (addf (unit x) (unit q)))) := rfl

theorem pay114 : k0_pay114 (addf (unit x) (unit q)) (lanes (mulf (addf (unit x) (unit q)) (addf (unit x) (unit q)))) (eleven (lanes (mulf (addf (unit x) (unit q)) (addf (unit x) (unit q))))) = half x q := rfl

theorem pay115 : k0_pay115 x (addf (unit x) (unit q)) (lanes (mulf (addf (unit x) (unit q)) (addf (unit x) (unit q)))) (eleven (lanes (mulf (addf (unit x) (unit q)) (addf (unit x) (unit q))))) = deep (lanes (mulf x (half x q))) := rfl

theorem pay116 : k0_pay116 x (addf (unit x) (unit q)) (lanes (mulf (addf (unit x) (unit q)) (addf (unit x) (unit q)))) (eleven (lanes (mulf (addf (unit x) (unit q)) (addf (unit x) (unit q))))) = front (deep (lanes (mulf x (half x q)))) := rfl

theorem pay117 : k0_pay117 x u = rowsum (mulf x u) := rfl

theorem pay118 : k0_pay118 (half x q) (deep (lanes (mulf x (half x q)))) (front (deep (lanes (mulf x (half x q))))) = twice (rowsum (mulf x (half x q))) (half x q) := rfl

theorem pay67 : k0_pay67 x (norm x) (norm q) (unit q) (rowsum (mulf x (unit x))) (twice (rowsum (mulf x (half x q))) (half x q)) = rot x q := rfl

theorem pay68 : k0_pay68 x (norm x) (norm q) (unit q) (rowsum (mulf x (unit x))) (twice (rowsum (mulf x (half x q))) (half x q)) = subf x (rot x q) := rfl

theorem pay69 : k0_pay69 x o (norm x) (norm q) (unit q) (rowsum (mulf x (unit x))) (twice (rowsum (mulf x (half x q))) (half x q)) = addf o (rot x q) := rfl

theorem pay73 : k0_pay73 x (norm x) (norm q) (unit q) (rowsum (mulf x (unit x))) (twice (rowsum (mulf x (half x q))) (half x q)) v = cross (subf x (rot x q)) (book v) := rfl

theorem pay74 : k0_pay74 x (norm x) (norm q) (unit q) (rowsum (mulf x (unit x))) (twice (rowsum (mulf x (half x q))) (half x q)) = lanes (mulf (subf x (rot x q)) (subf x (rot x q))) := rfl

theorem pay75 : k0_pay75 x (norm x) (norm q) (unit q) (rowsum (mulf x (unit x))) (twice (rowsum (mulf x (half x q))) (half x q)) = ten (lanes (mulf (subf x (rot x q)) (subf x (rot x q)))) := rfl

theorem pay1 : k0_pay1 x o (norm x) (norm q) (unit q) (rowsum (mulf x (unit x))) (twice (rowsum (mulf x (half x q))) (half x q)) = addf o (rot x q) := rfl

theorem pay4 : k0_pay4 w = lens w := rfl

theorem pay5 : k0_pay5 w = lens w := rfl

theorem pay9 : k0_pay9 (k0_pay7 w) (k0_pay8 w) = lens w := rfl
theorem pay13 : k0_pay13 (k0_pay10 w) (k0_pay11 w) (k0_pay12 w) = lens w := rfl

end

end Cert.KernelIdeal.Tile

end
-- ==== Proof.Point.lean ====
/- What one grid point of the kernel leaves, in whole-tile functions. -/
module

public import proofs.«01_k».proof.Proof.Gen.KernelIdeal.Value
public import proofs.«01_k».proof.Proof.Pay
public import Idealize.ShloMosaic.Lib.Pipeline.ValueKit
public import Idealize.ShloMosaic.Lib.Pipeline.ReadBack

@[expose] public section

set_option maxRecDepth 16384

noncomputable section

namespace Cert.KernelIdeal.Tile

open Cert.KernelIdeal Cert.KernelIdeal.Gen Cert.KernelIdeal.Value Idealize.ShloMosaic Idealize.ShloMosaic.TcCoe
open Idealize.SL.Sem Idealize.ShloMosaic.Tactic

/-- The losses before the first tile. -/
def none : FVec Ideal S1x4 .f32 := broadcast S1x4 (Scalar.ofBits .f32 0x00000000#32)

theorem pay14 : k0_pay14 (F := Ideal) = none := rfl

theorem lanesB_fold (p : List (Fin S1024x128.rank)) (ht : S1024x128.Transposes p S128x1024) (hp : p = [1, 0]) (y : FVec Ideal S1024x256 .f32) :
    transpose S128x1024 p (addf (extractStridedSlice S1024x128 ![0, 0] y slices_S1024x256_o0_0_S1024x128)
    (extractStridedSlice S1024x128 ![0, 128] y slices_S1024x256_o0_128_S1024x128)) ht = lanesB y := by
  subst hp
  rfl

theorem deepB_fold (t : FVec Ideal S128x1024 .f32) :
    addf (addf (addf (addf (addf (addf (addf (addf (addf (addf (addf (addf (addf (addf (addf (extractStridedSlice S8x1024 ![0, 0] t slices_S128x1024_o0_0_S8x1024)
    (extractStridedSlice S8x1024 ![8, 0] t slices_S128x1024_o8_0_S8x1024))
    (extractStridedSlice S8x1024 ![16, 0] t slices_S128x1024_o16_0_S8x1024))
    (extractStridedSlice S8x1024 ![24, 0] t slices_S128x1024_o24_0_S8x1024))
    (extractStridedSlice S8x1024 ![32, 0] t slices_S128x1024_o32_0_S8x1024))
    (extractStridedSlice S8x1024 ![40, 0] t slices_S128x1024_o40_0_S8x1024))
    (extractStridedSlice S8x1024 ![48, 0] t slices_S128x1024_o48_0_S8x1024))
    (extractStridedSlice S8x1024 ![56, 0] t slices_S128x1024_o56_0_S8x1024))
    (extractStridedSlice S8x1024 ![64, 0] t slices_S128x1024_o64_0_S8x1024))
    (extractStridedSlice S8x1024 ![72, 0] t slices_S128x1024_o72_0_S8x1024))
    (extractStridedSlice S8x1024 ![80, 0] t slices_S128x1024_o80_0_S8x1024))
    (extractStridedSlice S8x1024 ![88, 0] t slices_S128x1024_o88_0_S8x1024))
    (extractStridedSlice S8x1024 ![96, 0] t slices_S128x1024_o96_0_S8x1024))
    (extractStridedSlice S8x1024 ![104, 0] t slices_S128x1024_o104_0_S8x1024))
    (extractStridedSlice S8x1024 ![112, 0] t slices_S128x1024_o112_0_S8x1024))
    (extractStridedSlice S8x1024 ![120, 0] t slices_S128x1024_o120_0_S8x1024) =
      deepB t := rfl

theorem fourB_fold (t : FVec Ideal S8x1024 .f32) :
    addf (extractStridedSlice S4x1024 ![0, 0] t slices_S8x1024_o0_0_S4x1024)
    (extractStridedSlice S4x1024 ![4, 0] t slices_S8x1024_o4_0_S4x1024) =
      fourB t := rfl

theorem pairB_fold (t : FVec Ideal S4x1024 .f32) :
    addf (extractStridedSlice S2x1024 ![0, 0] t slices_S4x1024_o0_0_S2x1024)
    (extractStridedSlice S2x1024 ![2, 0] t slices_S4x1024_o2_0_S2x1024) =
      pairB t := rfl

theorem lastB_fold (t : FVec Ideal S2x1024 .f32) :
    addf (extractStridedSlice S1x1024 ![0, 0] t slices_S2x1024_o0_0_S1x1024)
    (extractStridedSlice S1x1024 ![1, 0] t slices_S2x1024_o1_0_S1x1024) =
      lastB t := rfl

theorem pay13_fold (t : FVec Ideal S128x1024 .f32) :
    k0_pay13 t (extractStridedSlice S8x1024 ![0, 0] t slices_S128x1024_o0_0_S8x1024)
      (extractStridedSlice S8x1024 ![8, 0] t slices_S128x1024_o8_0_S8x1024)
      = shapeCast S1x1024 (lastB (pairB (fourB (deepB t)))) shapeCasts_S1x1024_S1x1024 := rfl

theorem lens_fold (w : FVec Ideal S1x1024x256 .f32) :
    shapeCast S1x1024 (lastB (pairB (fourB (deepB (lanesB (mulf (shapeCast S1024x256 w shapeCasts_S1x1024x256_S1024x256)
      (shapeCast S1024x256 w shapeCasts_S1x1024x256_S1024x256))))))) shapeCasts_S1x1024_S1x1024 = lens w := rfl

/-- Two tiles with the same entries are the same. -/
theorem ext2 {a b : ℕ} {α : Type} {f g : (⟨2, ![a, b]⟩ : Shape).Idx → α} (h : ∀ i j, f (ix2 i j) = g (ix2 i j)) : f = g := by
  funext i
  rw [eq_ix2 i]
  exact h _ _

/-- One of the four codebooks. -/
def part (b : FVec Ideal S4x1024x256 .bf16) (k : Fin 4) : FVec Ideal S1024x256 .bf16 := fun i => b (ix3 k (i 0) (i 1))

/-- One of the four rows of squared lengths. -/
def row (e : FVec Ideal S4x1024 .f32) (k : Fin 4) : FVec Ideal S1x1024 .f32 := fun i => e (ix2 k (i 1))

/-- The squared lengths of all codes. -/
def table (b : FVec Ideal S4x1024x256 .f32) : FVec Ideal S4x1024 .f32 := fun i => Row.sq fun d => b (ix3 (i 0) (i 1) d)

theorem book0 (b : FVec Ideal S4x1024x256 .bf16) :
    book (@View.ld (Elt Ideal) S4x1024x256 .bf16 b (Rect.unit ![0, 0, 0] ![1, 1024, 256] inb_S4x1024x256_S1x1024x256_0_0_0)) = part b 0 := by
  funext i
  pointwise [book, part]

theorem row0 (e : FVec Ideal S4x1024 .f32) : @View.ld (Elt Ideal) S4x1024 .f32 e (Rect.unit ![0, 0] ![1, 1024] inb_S4x1024_S1x1024_0_0) = row e 0 := by
  funext i
  pointwise [row]

theorem lens0 (b : FVec Ideal S4x1024x256 .f32) :
    lens (@View.ld (Elt Ideal) S4x1024x256 .f32 b (Rect.unit ![0, 0, 0] ![1, 1024, 256] inb_S4x1024x256_S1x1024x256_0_0_0)) = row (table b) 0 := by
  refine ext2 (a := 1) (b := 1024) fun z j => (lens_at _ z j).trans ?_
  pointwise [row, table]

theorem book1 (b : FVec Ideal S4x1024x256 .bf16) :
    book (@View.ld (Elt Ideal) S4x1024x256 .bf16 b (Rect.unit ![1, 0, 0] ![1, 1024, 256] inb_S4x1024x256_S1x1024x256_1_0_0)) = part b 1 := by
  funext i
  pointwise [book, part]

theorem row1 (e : FVec Ideal S4x1024 .f32) : @View.ld (Elt Ideal) S4x1024 .f32 e (Rect.unit ![1, 0] ![1, 1024] inb_S4x1024_S1x1024_1_0) = row e 1 := by
  funext i
  pointwise [row]

theorem lens1 (b : FVec Ideal S4x1024x256 .f32) :
    lens (@View.ld (Elt Ideal) S4x1024x256 .f32 b (Rect.unit ![1, 0, 0] ![1, 1024, 256] inb_S4x1024x256_S1x1024x256_1_0_0)) = row (table b) 1 := by
  refine ext2 (a := 1) (b := 1024) fun z j => (lens_at _ z j).trans ?_
  pointwise [row, table]

theorem book2 (b : FVec Ideal S4x1024x256 .bf16) :
    book (@View.ld (Elt Ideal) S4x1024x256 .bf16 b (Rect.unit ![2, 0, 0] ![1, 1024, 256] inb_S4x1024x256_S1x1024x256_2_0_0)) = part b 2 := by
  funext i
  pointwise [book, part]

theorem row2 (e : FVec Ideal S4x1024 .f32) : @View.ld (Elt Ideal) S4x1024 .f32 e (Rect.unit ![2, 0] ![1, 1024] inb_S4x1024_S1x1024_2_0) = row e 2 := by
  funext i
  pointwise [row]

theorem lens2 (b : FVec Ideal S4x1024x256 .f32) :
    lens (@View.ld (Elt Ideal) S4x1024x256 .f32 b (Rect.unit ![2, 0, 0] ![1, 1024, 256] inb_S4x1024x256_S1x1024x256_2_0_0)) = row (table b) 2 := by
  refine ext2 (a := 1) (b := 1024) fun z j => (lens_at _ z j).trans ?_
  pointwise [row, table]

theorem book3 (b : FVec Ideal S4x1024x256 .bf16) :
    book (@View.ld (Elt Ideal) S4x1024x256 .bf16 b (Rect.unit ![3, 0, 0] ![1, 1024, 256] inb_S4x1024x256_S1x1024x256_3_0_0)) = part b 3 := by
  funext i
  pointwise [book, part]

theorem row3 (e : FVec Ideal S4x1024 .f32) : @View.ld (Elt Ideal) S4x1024 .f32 e (Rect.unit ![3, 0] ![1, 1024] inb_S4x1024_S1x1024_3_0) = row e 3 := by
  funext i
  pointwise [row]

theorem lens3 (b : FVec Ideal S4x1024x256 .f32) :
    lens (@View.ld (Elt Ideal) S4x1024x256 .f32 b (Rect.unit ![3, 0, 0] ![1, 1024, 256] inb_S4x1024x256_S1x1024x256_3_0_0)) = row (table b) 3 := by
  refine ext2 (a := 1) (b := 1024) fun z j => (lens_at _ z j).trans ?_
  pointwise [row, table]

section
variable (x : FVec Ideal S512x256 .f32) (h m l : FVec Ideal S4x1024x256 .bf16) (e : FVec Ideal S4x1024 .f32)

/-- The positions found by a stage. -/
def found (k : Fin 4) : IVec S512x1 32 := arg (dist x (part h k) (row e k))

/-- The codes found by a stage. -/
def codes (k : Fin 4) : FVec Ideal S512x256 .f32 := quant (found x h e k) (part h k) (part m k) (part l k)

/-- The rotated rows of a stage. -/
def turned (k : Fin 4) : FVec Ideal S512x256 .f32 := rot x (codes x h m l e k)

/-- What is left of the rows after a stage. -/
def after (k : Fin 4) : FVec Ideal S512x256 .f32 := subf x (turned x h m l e k)

/-- What is left of the rows before a stage. -/
def left : ℕ → FVec Ideal S512x256 .f32
  | 0 => x
  | k + 1 => after (left k) h m l e (Fin.ofNat 4 k)

/-- The sum of the rotated rows. -/
def total : FVec Ideal S512x256 .f32 :=
  addf (addf (addf (addf zeros (turned (left x h m l e 0) h m l e 0)) (turned (left x h m l e 1) h m l e 1))
    (turned (left x h m l e 2) h m l e 2)) (turned (left x h m l e 3) h m l e 3)

/-- The positions of the four stages side by side. -/
def places : IVec S512x4 32 :=
  k0_pay2 (found (left x h m l e 0) h e 0) (found (left x h m l e 1) h e 1) (found (left x h m l e 2) h e 2)
    (found (left x h m l e 3) h e 3)

/-- The loss of a stage. -/
def share (k : Fin 4) : FVec Ideal S1x1 .f32 := loss (left x h m l e k.val) (codes (left x h m l e k.val) h m l e k)

/-- The losses so far and those of the tile added. -/
def shares (a : FVec Ideal S1x4 .f32) : FVec Ideal S1x4 .f32 :=
  k0_pay3 (share x h m l e 0) (share x h m l e 1) (share x h m l e 2) (share x h m l e 3) a

end

variable (m : (ℓ : Loc nD τ sig) → Buf (Elt Ideal) ℓ)

theorem later (c : Dev nD) (t : Fin cfg0.N) (h0 : ¬t.val % 9 = 0) (acc) : stAt0 m c t.val t.isLt acc
    = (total (rows (iblk m c 0 t)) (iblk m c 2 t) (iblk m c 3 t) (iblk m c 4 t) acc.2.2.2,
      places (rows (iblk m c 0 t)) (iblk m c 2 t) (iblk m c 3 t) (iblk m c 4 t) acc.2.2.2,
      shares (rows (iblk m c 0 t)) (iblk m c 2 t) (iblk m c 3 t) (iblk m c 4 t) acc.2.2.2 acc.2.2.1, acc.2.2.2) := by
  rw [stAt0_B m c t acc h0]
  refine Prod.ext ?_ (Prod.ext ?_ (Prod.ext ?_ rfl)) <;> dsimp only
  · frame_out
    simp (disch := rfl) only [read_unread_whole, pay15, pay16, pay18, pay19, pay20, pay45, pay46, pay47, pay70, pay71, pay72, pay97, pay98, pay99, pay21, pay22, pay23, pay24, pay25, pay26, pay27, pay28, pay29, pay30, pay31, pay33, pay34, pay35, pay36, pay37, pay38, pay39, pay40, pay41, pay42, pay43, pay44, pay76, pay77, pay78, pay79, pay80, pay81, pay82, pay83, pay85, pay86, pay87, pay88, pay89, pay90, pay91, pay92, pay93, pay94, pay95, pay96, pay32b, pay48, pay49, pay50, pay51, pay52, pay53, pay54, pay55, pay56, pay57, pay58, pay59, pay60, pay61, pay62, pay63, pay64, pay65, pay66, pay100, pay101, pay102, pay103, pay104, pay105, pay106, pay107, pay108, pay109, pay110, pay111, pay112, pay113, pay114, pay115, pay116, pay117, pay118, pay67, pay68, pay69, pay73, pay74, pay75, pay1, pay4, pay5, pay9, pay13, book0, row0, lens0, book1, row1, lens1, book2, row2, lens2, book3, row3, lens3]
    rfl
  · frame_out
    simp (disch := rfl) only [read_unread_whole, pay15, pay16, pay18, pay19, pay20, pay45, pay46, pay47, pay70, pay71, pay72, pay97, pay98, pay99, pay21, pay22, pay23, pay24, pay25, pay26, pay27, pay28, pay29, pay30, pay31, pay33, pay34, pay35, pay36, pay37, pay38, pay39, pay40, pay41, pay42, pay43, pay44, pay76, pay77, pay78, pay79, pay80, pay81, pay82, pay83, pay85, pay86, pay87, pay88, pay89, pay90, pay91, pay92, pay93, pay94, pay95, pay96, pay32b, pay48, pay49, pay50, pay51, pay52, pay53, pay54, pay55, pay56, pay57, pay58, pay59, pay60, pay61, pay62, pay63, pay64, pay65, pay66, pay100, pay101, pay102, pay103, pay104, pay105, pay106, pay107, pay108, pay109, pay110, pay111, pay112, pay113, pay114, pay115, pay116, pay117, pay118, pay67, pay68, pay69, pay73, pay74, pay75, pay1, pay4, pay5, pay9, pay13, book0, row0, lens0, book1, row1, lens1, book2, row2, lens2, book3, row3, lens3]
    rfl
  · frame_out
    simp (disch := rfl) only [read_unread_whole, pay15, pay16, pay18, pay19, pay20, pay45, pay46, pay47, pay70, pay71, pay72, pay97, pay98, pay99, pay21, pay22, pay23, pay24, pay25, pay26, pay27, pay28, pay29, pay30, pay31, pay33, pay34, pay35, pay36, pay37, pay38, pay39, pay40, pay41, pay42, pay43, pay44, pay76, pay77, pay78, pay79, pay80, pay81, pay82, pay83, pay85, pay86, pay87, pay88, pay89, pay90, pay91, pay92, pay93, pay94, pay95, pay96, pay32b, pay48, pay49, pay50, pay51, pay52, pay53, pay54, pay55, pay56, pay57, pay58, pay59, pay60, pay61, pay62, pay63, pay64, pay65, pay66, pay100, pay101, pay102, pay103, pay104, pay105, pay106, pay107, pay108, pay109, pay110, pay111, pay112, pay113, pay114, pay115, pay116, pay117, pay118, pay67, pay68, pay69, pay73, pay74, pay75, pay1, pay4, pay5, pay9, pay13, book0, row0, lens0, book1, row1, lens1, book2, row2, lens2, book3, row3, lens3]
    rfl

theorem first (c : Dev nD) (t : Fin cfg0.N) (h0 : t.val % 9 = 0) (acc) : stAt0 m c t.val t.isLt acc
    = (total (rows (iblk m c 0 t)) (iblk m c 2 t) (iblk m c 3 t) (iblk m c 4 t) (table (iblk m c 1 t)),
      places (rows (iblk m c 0 t)) (iblk m c 2 t) (iblk m c 3 t) (iblk m c 4 t) (table (iblk m c 1 t)),
      shares (rows (iblk m c 0 t)) (iblk m c 2 t) (iblk m c 3 t) (iblk m c 4 t) (table (iblk m c 1 t)) none, table (iblk m c 1 t)) := by
  rw [stAt0_A m c t acc h0]
  refine Prod.ext ?_ (Prod.ext ?_ (Prod.ext ?_ ?_)) <;> dsimp only
  · frame_open
    simp (disch := decide) only [↓ View.readCov_skip, ↓ View.readCov_cons_toLoadRect, ↓ View.readCov_fill]
    frame_out
    simp (disch := rfl) only [lanesB_fold, deepB_fold, fourB_fold, pairB_fold, lastB_fold, lens_fold, pay13_fold, read_unread_whole, pay14, pay15, pay16, pay18, pay19, pay20, pay45, pay46, pay47, pay70, pay71, pay72, pay97, pay98, pay99, pay21, pay22, pay23, pay24, pay25, pay26, pay27, pay28, pay29, pay30, pay31, pay33, pay34, pay35, pay36, pay37, pay38, pay39, pay40, pay41, pay42, pay43, pay44, pay76, pay77, pay78, pay79, pay80, pay81, pay82, pay83, pay85, pay86, pay87, pay88, pay89, pay90, pay91, pay92, pay93, pay94, pay95, pay96, pay32b, pay48, pay49, pay50, pay51, pay52, pay53, pay54, pay55, pay56, pay57, pay58, pay59, pay60, pay61, pay62, pay63, pay64, pay65, pay66, pay100, pay101, pay102, pay103, pay104, pay105, pay106, pay107, pay108, pay109, pay110, pay111, pay112, pay113, pay114, pay115, pay116, pay117, pay118, pay67, pay68, pay69, pay73, pay74, pay75, pay1, pay4, pay5, pay9, pay13, book0, row0, lens0, book1, row1, lens1, book2, row2, lens2, book3, row3, lens3]
    rfl
  · frame_open
    simp (disch := decide) only [↓ View.readCov_skip, ↓ View.readCov_cons_toLoadRect, ↓ View.readCov_fill]
    frame_out
    simp (disch := rfl) only [lanesB_fold, deepB_fold, fourB_fold, pairB_fold, lastB_fold, lens_fold, pay13_fold, read_unread_whole, pay14, pay15, pay16, pay18, pay19, pay20, pay45, pay46, pay47, pay70, pay71, pay72, pay97, pay98, pay99, pay21, pay22, pay23, pay24, pay25, pay26, pay27, pay28, pay29, pay30, pay31, pay33, pay34, pay35, pay36, pay37, pay38, pay39, pay40, pay41, pay42, pay43, pay44, pay76, pay77, pay78, pay79, pay80, pay81, pay82, pay83, pay85, pay86, pay87, pay88, pay89, pay90, pay91, pay92, pay93, pay94, pay95, pay96, pay32b, pay48, pay49, pay50, pay51, pay52, pay53, pay54, pay55, pay56, pay57, pay58, pay59, pay60, pay61, pay62, pay63, pay64, pay65, pay66, pay100, pay101, pay102, pay103, pay104, pay105, pay106, pay107, pay108, pay109, pay110, pay111, pay112, pay113, pay114, pay115, pay116, pay117, pay118, pay67, pay68, pay69, pay73, pay74, pay75, pay1, pay4, pay5, pay9, pay13, book0, row0, lens0, book1, row1, lens1, book2, row2, lens2, book3, row3, lens3]
    rfl
  · frame_open
    simp (disch := decide) only [↓ View.readCov_skip, ↓ View.readCov_cons_toLoadRect, ↓ View.readCov_fill]
    frame_out
    simp (disch := rfl) only [lanesB_fold, deepB_fold, fourB_fold, pairB_fold, lastB_fold, lens_fold, pay13_fold, read_unread_whole, pay14, pay15, pay16, pay18, pay19, pay20, pay45, pay46, pay47, pay70, pay71, pay72, pay97, pay98, pay99, pay21, pay22, pay23, pay24, pay25, pay26, pay27, pay28, pay29, pay30, pay31, pay33, pay34, pay35, pay36, pay37, pay38, pay39, pay40, pay41, pay42, pay43, pay44, pay76, pay77, pay78, pay79, pay80, pay81, pay82, pay83, pay85, pay86, pay87, pay88, pay89, pay90, pay91, pay92, pay93, pay94, pay95, pay96, pay32b, pay48, pay49, pay50, pay51, pay52, pay53, pay54, pay55, pay56, pay57, pay58, pay59, pay60, pay61, pay62, pay63, pay64, pay65, pay66, pay100, pay101, pay102, pay103, pay104, pay105, pay106, pay107, pay108, pay109, pay110, pay111, pay112, pay113, pay114, pay115, pay116, pay117, pay118, pay67, pay68, pay69, pay73, pay74, pay75, pay1, pay4, pay5, pay9, pay13, book0, row0, lens0, book1, row1, lens1, book2, row2, lens2, book3, row3, lens3]
    rfl
  · frame_open
    frame_out
    simp (disch := rfl) only [lanesB_fold, deepB_fold, fourB_fold, pairB_fold, lastB_fold, lens_fold, pay13_fold, read_unread_whole, pay14, pay15, pay16, pay18, pay19, pay20, pay45, pay46, pay47, pay70, pay71, pay72, pay97, pay98, pay99, pay21, pay22, pay23, pay24, pay25, pay26, pay27, pay28, pay29, pay30, pay31, pay33, pay34, pay35, pay36, pay37, pay38, pay39, pay40, pay41, pay42, pay43, pay44, pay76, pay77, pay78, pay79, pay80, pay81, pay82, pay83, pay85, pay86, pay87, pay88, pay89, pay90, pay91, pay92, pay93, pay94, pay95, pay96, pay32b, pay48, pay49, pay50, pay51, pay52, pay53, pay54, pay55, pay56, pay57, pay58, pay59, pay60, pay61, pay62, pay63, pay64, pay65, pay66, pay100, pay101, pay102, pay103, pay104, pay105, pay106, pay107, pay108, pay109, pay110, pay111, pay112, pay113, pay114, pay115, pay116, pay117, pay118, pay67, pay68, pay69, pay73, pay74, pay75, pay1, pay4, pay5, pay9, pay13, book0, row0, lens0, book1, row1, lens1, book2, row2, lens2, book3, row3, lens3]
    funext y
    refine View.canon_apply_of_pieces (Val := Elt Ideal) (e := .f32) (table (iblk m c 1 t)) _ (View.PiecesOf.mem ?_) y ?_
    rotate_left
    · exact View.cover_of_tiledL _ ![1, 1024] (by first | decide | rfl) y
    refine ⟨fun x => ?_, fun x => ?_, fun x => ?_, fun x => ?_, trivial⟩
    · exact (congrFun (row3 (table (iblk m c 1 t))) x).symm
    · exact (congrFun (row2 (table (iblk m c 1 t))) x).symm
    · exact (congrFun (row1 (table (iblk m c 1 t))) x).symm
    · exact (congrFun (row0 (table (iblk m c 1 t))) x).symm

end Cert.KernelIdeal.Tile

end
-- ==== Proof.Answer.lean ====
/- The results, in rows: the sum of the rotated rows, the positions, the mean losses. -/
module

public import proofs.«01_k».proof.Proof.Row
public import Idealize.ShloMosaic.Lib.Pointwise

@[expose] public section

noncomputable section

namespace Cert.Row

open Idealize.ShloMosaic

/-- The rotated part of a row at a stage. -/
def turned (r : Vec) (E : Fin 4 → Book) (k : Fin 4) : Vec := rot (res r E k.val) (code (res r E k.val) (E k))

/-- The sum of the four rotated parts. -/
def total (r : Vec) (E : Fin 4 → Book) (d : Fin 256) : EReal :=
  Ideal.ofBits .f32 0x00000000#32 + turned r E 0 d + turned r E 1 d + turned r E 2 d + turned r E 3 d

/-- The position found at a stage. -/
def place (r : Vec) (E : Fin 4 → Book) (k : Fin 4) : BitVec 32 := BitVec.ofNat 32 (pos (dist (res r E k.val) (E k))).val

/-- The squared difference at a stage. -/
def lost (r : Vec) (E : Fin 4 → Book) (k : Fin 4) : EReal := miss (res r E k.val) (code (res r E k.val) (E k))

theorem lost_nonneg (r : Vec) (E : Fin 4 → Book) (k : Fin 4) : 0 ≤ lost r E k := by
  unfold lost miss
  exact Finset.sum_nonneg fun _ _ => sq_nonneg _

/-- The mean over all rows. -/
def mean (X : Fin 4608 → Vec) (E : Fin 4 → Book) (k : Fin 4) : EReal := (∑ g, lost (X g) E k) * ((1 / 1179648 : ℝ) : EReal)

theorem sum_scale {α : Type} (s : Finset α) (f : α → EReal) (c : EReal) (hf : ∀ a ∈ s, 0 ≤ f a) :
    ∑ a ∈ s, f a * c = (∑ a ∈ s, f a) * c := by
  induction s using Finset.cons_induction with
  | empty => simp
  | cons a s ha ih =>
    rw [Finset.sum_cons, Finset.sum_cons, ih fun b hb => hf b (Finset.mem_cons_of_mem hb),
      EReal.right_distrib_of_nonneg (hf a (Finset.mem_cons_self a s))
        (Finset.sum_nonneg fun b hb => hf b (Finset.mem_cons_of_mem hb))]

/-- The mean, tile by tile. -/
theorem mean_tiles (X : Fin 4608 → Vec) (E : Fin 4 → Book) (k : Fin 4) :
    ∑ t : Fin 9, (∑ i : Fin 512, lost (X ⟨t.val * 512 + i.val, by omega⟩) E k) * ((1 / 1179648 : ℝ) : EReal) = mean X E k := by
  rw [sum_scale _ _ _ fun t _ => Finset.sum_nonneg fun i _ => lost_nonneg _ _ _]
  unfold mean
  rw [Fin.sum_univ_tiles 9 512 rfl]

theorem bits_count : Ideal.ofBits .f32 0x49900000#32 = ((1179648 : ℝ) : EReal) := by
  simp [Ideal.ofBits, Ideal.ieee]
  rw [← EReal.coe_mul]
  congr 1
  norm_num

theorem bits_zero : Ideal.ofBits .f32 0x00000000#32 = 0 := by
  simp [Ideal.ofBits, Ideal.ieee]

/-- A sum divided by the number of entries is the mean. -/
theorem mean_div (X : Fin 4608 → Vec) (E : Fin 4 → Book) (k : Fin 4) :
    Ideal.div (∑ g, lost (X g) E k) (Ideal.ofBits .f32 0x49900000#32) = mean X E k := by
  rw [bits_count, Ideal.div_coe (by norm_num)]
  rfl

end Cert.Row

end
-- ==== Proof.Rows.lean ====
/- The tiles of one grid point, read row by row. -/
module

public import proofs.«01_k».proof.Proof.Point
public import proofs.«01_k».proof.Proof.Answer

@[expose] public section

set_option maxRecDepth 16384

noncomputable section

namespace Cert.KernelIdeal.Tile

open Cert.KernelIdeal Cert.KernelIdeal.Gen Idealize.ShloMosaic

/-- The rows `r` fill the tile. -/
def Holds (x : FVec Ideal S512x256 .f32) (r : Fin 512 → Row.Vec) : Prop := ∀ i d, x (ix2 i d) = r i d

/-- The codebooks in three parts and the squared lengths of the codes. -/
structure Parts (E : Fin 4 → Row.Book) (h m l : FVec Ideal S4x1024x256 .bf16) (e : FVec Ideal S4x1024 .f32) : Prop where
  hi : ∀ k j d, h (ix3 k j d) = E k j d
  mid : ∀ k j d, m (ix3 k j d) = E k j d - E k j d
  lo : ∀ k j d, l (ix3 k j d) = (E k j d - E k j d) - (E k j d - E k j d)
  len : ∀ k j, e (ix2 k j) = Row.sq (E k j)

theorem Holds.row {x : FVec Ideal S512x256 .f32} {r : Fin 512 → Row.Vec} (hx : Holds x r) (i : Fin 512) :
    (fun d => x (ix2 i d)) = r i := funext fun d => hx i d

variable {E : Fin 4 → Row.Book} {h m l : FVec Ideal S4x1024x256 .bf16} {e : FVec Ideal S4x1024 .f32}

theorem found_at (P : Parts E h m l e) {x : FVec Ideal S512x256 .f32} {r : Fin 512 → Row.Vec} (hx : Holds x r) (k : Fin 4)
    (i : Fin 512) (z : Fin 1) : found x h e k (ix2 i z) = BitVec.ofNat 32 (Row.pos (Row.dist (r i) (E k))).val := by
  unfold found
  rw [arg_at]
  congr 3
  funext j
  rw [dist_at, hx.row i]
  show _ - (∑ d, Row.two * x (ix2 i d) * h (ix3 k j d)) + e (ix2 k j) = _
  simp only [hx i _, P.hi, P.len]
  rfl

theorem codes_at (P : Parts E h m l e) {x : FVec Ideal S512x256 .f32} {r : Fin 512 → Row.Vec} (hx : Holds x r) (k : Fin 4) :
    Holds (codes x h m l e k) fun i d => Row.fix (Row.code (r i) (E k) d) := by
  intro i d
  show pick _ _ (ix2 i d) + pick _ _ (ix2 i d) + pick _ _ (ix2 i d) = _
  have hf := found_at P hx k i 0
  rw [pick_at _ _ i d _ hf, pick_at _ _ i d _ hf, pick_at _ _ i d _ hf]
  exact congrArg₂ (· + ·) (congrArg₂ (· + ·) (P.hi k _ d) (P.mid k _ d)) (P.lo k _ d)

theorem turned_at (P : Parts E h m l e) {x : FVec Ideal S512x256 .f32} {r : Fin 512 → Row.Vec} (hx : Holds x r) (k : Fin 4) :
    Holds (turned x h m l e k) fun i => Row.rot (r i) (Row.code (r i) (E k)) := by
  intro i d
  refine (rot_at _ _ i d).trans ?_
  rw [hx.row i, (codes_at P hx k).row i, Row.rot_fix]

theorem after_at (P : Parts E h m l e) {x : FVec Ideal S512x256 .f32} {r : Fin 512 → Row.Vec} (hx : Holds x r) (k : Fin 4) :
    Holds (after x h m l e k) fun i => Row.next (r i) (E k) := by
  intro i d
  show x (ix2 i d) - turned x h m l e k (ix2 i d) = _
  rw [hx i d, turned_at P hx k i d]
  rfl

theorem res_succ (r : Row.Vec) (k : Fin 4) : Row.res r E (k.val + 1) = Row.next (Row.res r E k.val) (E k) := by
  show (if h : k.val < 4 then _ else _) = _
  rw [dif_pos k.isLt]

theorem left_at (P : Parts E h m l e) {x : FVec Ideal S512x256 .f32} {r : Fin 512 → Row.Vec} (hx : Holds x r) :
    ∀ k : ℕ, k ≤ 4 → Holds (left x h m l e k) fun i => Row.res (r i) E k
  | 0, _ => hx
  | k + 1, hk => by
    have h0 := after_at P (left_at P hx k (by omega)) (Fin.ofNat 4 k)
    have hf : (⟨k, hk⟩ : Fin 4) = Fin.ofNat 4 k := Fin.ext (Nat.mod_eq_of_lt hk).symm
    intro i d
    refine (h0 i d).trans ?_
    rw [← hf]
    exact (congrFun (res_succ (r i) ⟨k, hk⟩) d).symm

theorem step_at (P : Parts E h m l e) {x : FVec Ideal S512x256 .f32} {r : Fin 512 → Row.Vec} (hx : Holds x r) (k : Fin 4) :
    Holds (turned (left x h m l e k.val) h m l e k) fun i => Row.rot (Row.res (r i) E k.val) (Row.code (Row.res (r i) E k.val) (E k)) :=
  turned_at P (left_at P hx k.val k.isLt.le) k

theorem share_at (P : Parts E h m l e) {x : FVec Ideal S512x256 .f32} {r : Fin 512 → Row.Vec} (hx : Holds x r) (k : Fin 4)
    (z z' : Fin 1) : share x h m l e k (ix2 z z')
      = (∑ i, Row.lost (r i) E k) * ((1 / 1179648 : ℝ) : EReal) := by
  have hl := left_at P hx k.val k.isLt.le
  refine (loss_at _ _ z z').trans ?_
  congr 1
  refine Finset.sum_congr rfl fun i _ => ?_
  rw [hl.row i, (codes_at P hl k).row i, Row.miss_fix]
  rfl

theorem total_at (P : Parts E h m l e) {x : FVec Ideal S512x256 .f32} {r : Fin 512 → Row.Vec} (hx : Holds x r) (i : Fin 512) (d : Fin 256) :
    total x h m l e (ix2 i d)
      = Row.total (r i) E d := by
  show _ + turned (left x h m l e (0 : Fin 4).val) h m l e 0 (ix2 i d) + turned (left x h m l e (1 : Fin 4).val) h m l e 1 (ix2 i d)
    + turned (left x h m l e (2 : Fin 4).val) h m l e 2 (ix2 i d) + turned (left x h m l e (3 : Fin 4).val) h m l e 3 (ix2 i d) = _
  rw [step_at P hx 0 i d, step_at P hx 1 i d, step_at P hx 2 i d, step_at P hx 3 i d]
  rfl

theorem places_at (P : Parts E h m l e) {x : FVec Ideal S512x256 .f32} {r : Fin 512 → Row.Vec} (hx : Holds x r) (i : Fin 512) (k : Fin 4) :
    places x h m l e (ix2 i k) = Row.place (r i) E k := by
  have hf := fun k : Fin 4 => found_at P (left_at P hx k.val k.isLt.le) k i 0
  unfold places
  fin_cases k
  · refine Eq.trans ?_ (hf 0)
    pointwise [k0_pay2]
  · refine Eq.trans ?_ (hf 1)
    pointwise [k0_pay2]
  · refine Eq.trans ?_ (hf 2)
    pointwise [k0_pay2]
  · refine Eq.trans ?_ (hf 3)
    pointwise [k0_pay2]

theorem shares_at (P : Parts E h m l e) {x : FVec Ideal S512x256 .f32} {r : Fin 512 → Row.Vec} (hx : Holds x r)
    (a : FVec Ideal S1x4 .f32) (z : Fin 1) (k : Fin 4) :
    shares x h m l e a (ix2 z k) = a (ix2 z k)
      + (∑ i, Row.lost (r i) E k) * ((1 / 1179648 : ℝ) : EReal) := by
  rw [← share_at P hx k 0 0]
  unfold shares
  fin_cases k
  · pointwise [k0_pay3]
  · pointwise [k0_pay3]
  · pointwise [k0_pay3]
  · pointwise [k0_pay3]

end Cert.KernelIdeal.Tile

end
-- ==== Proof.Blocks.lean ====
/- The blocks that a grid point reads, read from the arguments. -/
module

public import proofs.«01_k».proof.Proof.Rows

@[expose] public section

set_option maxRecDepth 16384

noncomputable section

namespace Cert.KernelIdeal.Tile

open Cert.KernelIdeal Cert.KernelIdeal.Gen Cert.KernelIdeal.Value Idealize.ShloMosaic Idealize.ShloMosaic.TcCoe
open Idealize.SL.Sem Idealize.ShloMosaic.Tactic

variable (m : (ℓ : Loc nD τ sig) → Buf (Elt Ideal) ℓ)

theorem place0 : ∀ t : Fin cfg0.N, win0_0.index t = ![t.val, 0] := (by decide +kernel : ∀ t : Fin grid0.N, win0_0.index t = ![t.val, 0])
theorem place1 : ∀ t : Fin cfg0.N, win0_1.index t = ![0, 0, 0] := (by decide +kernel : ∀ t : Fin grid0.N, win0_1.index t = ![0, 0, 0])
theorem place2 : ∀ t : Fin cfg0.N, win0_2.index t = ![0, 0, 0] := (by decide +kernel : ∀ t : Fin grid0.N, win0_2.index t = ![0, 0, 0])
theorem place3 : ∀ t : Fin cfg0.N, win0_3.index t = ![0, 0, 0] := (by decide +kernel : ∀ t : Fin grid0.N, win0_3.index t = ![0, 0, 0])
theorem place4 : ∀ t : Fin cfg0.N, win0_4.index t = ![0, 0, 0] := (by decide +kernel : ∀ t : Fin grid0.N, win0_4.index t = ![0, 0, 0])

/-- All rows of the first argument. -/
def input (c : Dev nD) : FVec Ideal S4608x256 .f32 := shapeCast S4608x256 (m ((c : Thread nD τ).loc main_arg0)) shapeCasts_S8x576x256_S4608x256

/-- The codebooks. -/
def table4 (c : Dev nD) : Fin 4 → Row.Book := fun k j d => m ((c : Thread nD τ).loc main_arg1) (ix3 k j d)

theorem input_eq (c : Dev nD) : V m c main_v0 = input m c := by
  entry_read
  rfl

theorem hi_eq (c : Dev nD) (k : Fin 4) (j : Fin 1024) (d : Fin 256) :
    (V m c main_v2 : FVec Ideal S4x1024x256 .bf16) (ix3 k j d) = table4 m c k j d := by
  entry_read
  rfl

theorem mid_eq (c : Dev nD) (k : Fin 4) (j : Fin 1024) (d : Fin 256) :
    (V m c main_v7 : FVec Ideal S4x1024x256 .bf16) (ix3 k j d) = table4 m c k j d - table4 m c k j d := by
  entry_read
  rfl

theorem lo_eq (c : Dev nD) (k : Fin 4) (j : Fin 1024) (d : Fin 256) :
    (V m c main_v11 : FVec Ideal S4x1024x256 .bf16) (ix3 k j d)
      = (table4 m c k j d - table4 m c k j d) - (table4 m c k j d - table4 m c k j d) := by
  entry_read
  rfl

theorem blk0 (c : Dev nD) (t : Fin cfg0.N) (i : Fin 512) (d : Fin 256) (h : t.val * 512 + i.val < 4608) :
    iblk m c 0 t (ix2 i d) = input m c (ix2 ⟨t.val * 512 + i.val, h⟩ d) := by
  rw [← input_eq]
  blk_ext [iblk, place0 t]

theorem blk1 (c : Dev nD) (t : Fin cfg0.N) : (iblk m c 1 t : FVec Ideal S4x1024x256 .f32) = m ((c : Thread nD τ).loc main_arg1) := by
  rw [← V_main_arg1 m c]
  blk_ext! [iblk, place1 t]

theorem blk2 (c : Dev nD) (t : Fin cfg0.N) : (iblk m c 2 t : FVec Ideal S4x1024x256 .bf16) = V m c main_v2 := by
  blk_ext! [iblk, place2 t]

theorem blk3 (c : Dev nD) (t : Fin cfg0.N) : (iblk m c 3 t : FVec Ideal S4x1024x256 .bf16) = V m c main_v7 := by
  blk_ext! [iblk, place3 t]

theorem blk4 (c : Dev nD) (t : Fin cfg0.N) : (iblk m c 4 t : FVec Ideal S4x1024x256 .bf16) = V m c main_v11 := by
  blk_ext! [iblk, place4 t]

end Cert.KernelIdeal.Tile

end
-- ==== Proof.Fold.lean ====
/- The state after every grid point, and the arrays that the kernel ends with. -/
module

public import proofs.«01_k».proof.Proof.Blocks

@[expose] public section

set_option maxRecDepth 16384

noncomputable section

namespace Cert.KernelIdeal.Tile

open Cert.KernelIdeal Cert.KernelIdeal.Gen Cert.KernelIdeal.Value Idealize.ShloMosaic Idealize.ShloMosaic.TcCoe
open Idealize.SL.Sem Idealize.ShloMosaic.Tactic

variable (m : (ℓ : Loc nD τ sig) → Buf (Elt Ideal) ℓ)

/-- A row of the input. -/
def inRow (c : Dev nD) (g : Fin 4608) : Row.Vec := fun d => input m c (ix2 g d)

/-- The rows of a point's tile. -/
def tileRow (c : Dev nD) (t : Fin 9) (i : Fin 512) : Row.Vec := inRow m c ⟨t.val * 512 + i.val, by omega⟩

/-- The squared lengths of the codes. -/
abbrev lengths (c : Dev nD) : FVec Ideal S4x1024 .f32 := table (m ((c : Thread nD τ).loc main_arg1))

theorem parts (c : Dev nD) (t : Fin cfg0.N) : Parts (table4 m c) (iblk m c 2 t) (iblk m c 3 t) (iblk m c 4 t) (lengths m c) where
  hi k j d := (congrFun (blk2 m c t) (ix3 k j d)).trans (hi_eq m c k j d)
  mid k j d := (congrFun (blk3 m c t) (ix3 k j d)).trans (mid_eq m c k j d)
  lo k j d := (congrFun (blk4 m c t) (ix3 k j d)).trans (lo_eq m c k j d)
  len _ _ := rfl

theorem rows_at (x : FVec Ideal S512x256 .f32) (i : Fin 512) (d : Fin 256) : rows x (ix2 i d) = x (ix2 i d) := by
  pointwise [rows]

theorem holds (c : Dev nD) (n : ℕ) (hn : n < cfg0.N) (h9 : n < 9) : Holds (rows (iblk m c 0 ⟨n, hn⟩)) (tileRow m c ⟨n, h9⟩) :=
  fun i d => (rows_at _ i d).trans (blk0 m c ⟨n, hn⟩ i d _)

/-- A tile's share of a stage's loss. -/
def tileLoss (c : Dev nD) (k : Fin 4) (n : ℕ) : EReal :=
  if h : n < 9 then (∑ i, Row.lost (tileRow m c ⟨n, h⟩ i) (table4 m c) k) * ((1 / 1179648 : ℝ) : EReal) else 0

/-- The state after a point. -/
abbrev state (c : Dev nD) (n : ℕ) (hn : 0 + n < cfg0.N) :=
  Pipeline.accAt (fun n h => stAt0 m c n h junk0) (stAt0 m c) 0 n hn

/-- What a state holds after a point. -/
structure After (c : Dev nD) (n : ℕ) (h9 : n < 9) (s : Vec Ideal S512x256 .f32 × Vec Ideal S512x4 .i32 × Vec Ideal S1x4 .f32 × Vec Ideal S4x1024 .f32) : Prop where
  out : ∀ i d, s.1 (ix2 i d) = Row.total (tileRow m c ⟨n, h9⟩ i) (table4 m c) d
  idx : ∀ i k, s.2.1 (ix2 i k) = Row.place (tileRow m c ⟨n, h9⟩ i) (table4 m c) k
  loss : ∀ z k, s.2.2.1 (ix2 z k) = ∑ t ∈ Finset.range (n + 1), tileLoss m c k t
  len : s.2.2.2 = lengths m c

theorem none_at (z : Fin 1) (k : Fin 4) : none (ix2 z k) = 0 := Row.bits_zero

theorem after_first (c : Dev nD) (h : 0 < cfg0.N) (acc) : After m c 0 (by decide) (stAt0 m c 0 h acc) := by
  have e := first m c ⟨0, h⟩ rfl acc
  rw [blk1 m c ⟨0, h⟩] at e
  have P := parts m c ⟨0, h⟩
  have H := holds m c 0 h (by decide)
  rw [show stAt0 m c 0 h acc = _ from e]
  refine ⟨fun i d => total_at P H i d, fun i k => places_at P H i k, fun z k => ?_, rfl⟩
  refine (shares_at P H _ z k).trans ?_
  rw [none_at, zero_add, Finset.sum_range_one]
  rfl

theorem after_next (c : Dev nD) (n : ℕ) (h : n + 1 < cfg0.N) (h9 : n + 1 < 9) (acc) (ha : After m c n (by omega) acc) :
    After m c (n + 1) h9 (stAt0 m c (n + 1) h acc) := by
  have e := later m c ⟨n + 1, h⟩ (by show ¬(n + 1) % 9 = 0; omega) acc
  rw [ha.len] at e
  have P := parts m c ⟨n + 1, h⟩
  have H := holds m c (n + 1) h h9
  rw [show stAt0 m c (n + 1) h acc = _ from e]
  refine ⟨fun i d => total_at P H i d, fun i k => places_at P H i k, fun z k => ?_, rfl⟩
  refine (shares_at P H _ z k).trans ?_
  rw [ha.loss z k, Finset.sum_range_succ _ (n + 1)]
  congr 1
  unfold tileLoss
  rw [dif_pos h9]

theorem after_state (c : Dev nD) : ∀ (n : ℕ) (hn : 0 + n < cfg0.N) (h9 : n < 9), After m c n h9 (state m c n hn)
  | 0, hn, _ => after_first m c hn junk0
  | n + 1, hn, h9 => by
    have ih := after_state c n (Nat.lt_of_succ_lt hn) (by omega)
    have hn' : n + 1 < cfg0.N := by omega
    have key := after_next m c n hn' h9 _ ih
    show After m c (n + 1) h9 (stAt0 m c (0 + (n + 1)) hn (state m c n (Nat.lt_of_succ_lt hn)))
    convert key using 2 <;> omega

theorem G5_at (c : Dev nD) (g : Fin 4608) (d : Fin 256) :
    (G5 m c : FVec Ideal S4608x256 .f32) (ix2 g d) = Row.total (inRow m c g) (table4 m c) d := by
  have hg := g.isLt
  have hd := d.isLt
  have hp : pt5Of (ix2 g d) = g.val / 512 := by
    show 1 * (g.val / 512 - 0) + 1 * (d.val / 256 - 0) = _
    omega
  have hN : pt5Of (ix2 g d) < cfg0.N := by rw [hp, show cfg0.N = 9 from N_0]; omega
  have h9 : pt5Of (ix2 g d) < 9 := by omega
  unfold G5
  rw [dif_pos hN]
  have hl : loc5Of (ix2 g d) = ix2 ⟨g.val % 512, Nat.mod_lt _ (by decide)⟩ d := by
    refine (eq_ix2 _).trans ?_
    congr 1
    exact Fin.ext (Nat.mod_eq_of_lt hd)
  rw [hl]
  refine ((after_state m c _ (by omega) h9).out _ d).trans ?_
  congr 1
  unfold tileRow
  congr 1
  refine Fin.ext ?_
  simp only [hp]
  omega

theorem G6_at (c : Dev nD) (g : Fin 4608) (k : Fin 4) :
    (G6 m c : IVec S4608x4 32) (ix2 g k) = Row.place (inRow m c g) (table4 m c) k := by
  have hg := g.isLt
  have hk := k.isLt
  have hp : pt6Of (ix2 g k) = g.val / 512 := by
    show 1 * (g.val / 512 - 0) + 1 * (k.val / 4 - 0) = _
    omega
  have hN : pt6Of (ix2 g k) < cfg0.N := by rw [hp, show cfg0.N = 9 from N_0]; omega
  have h9 : pt6Of (ix2 g k) < 9 := by omega
  unfold G6
  rw [dif_pos hN]
  have hl : loc6Of (ix2 g k) = ix2 ⟨g.val % 512, Nat.mod_lt _ (by decide)⟩ k := by
    refine (eq_ix2 _).trans ?_
    congr 1
    exact Fin.ext (Nat.mod_eq_of_lt hk)
  rw [hl]
  refine ((after_state m c _ (by omega) h9).idx _ k).trans ?_
  congr 1
  unfold tileRow
  congr 1
  refine Fin.ext ?_
  simp only [hp]
  omega

theorem G7_at (c : Dev nD) (z : Fin 1) (k : Fin 4) :
    (G7 m c : FVec Ideal S1x4 .f32) (ix2 z k) = Row.mean (inRow m c) (table4 m c) k := by
  rw [G7_last]
  refine ((after_state m c 8 _ (by decide)).loss z k).trans ?_
  rw [← Row.mean_tiles, Finset.sum_range]
  refine Finset.sum_congr rfl fun t _ => ?_
  unfold tileLoss
  rw [dif_pos t.isLt]
  rfl

end Cert.KernelIdeal.Tile

end
-- ==== Proof.RefAt.lean ====
/- What a buffer of the reference ends holding. -/
module

public import proofs.«01_k».proof.Proof.RefOps
public import Idealize.ShloMosaic.PureOps.Ideal

@[expose] public section

noncomputable section

namespace Cert.ReferenceIdeal.Pieces

open Cert.ReferenceIdeal Cert.ReferenceIdeal.Gen Idealize.ShloMosaic Idealize.ShloMosaic.TcCoe Idealize.SL.Sem Idealize.ShloMosaic.StableHlo

/-- What a buffer ends holding. -/
abbrev at_ (V : Valuation τ sig (Elt Ideal)) (r : Ref sig .tc) := thru (pieces (F := Ideal)) V (Proc.devRef .tc r)

end Cert.ReferenceIdeal.Pieces

end
-- ==== Proof.RefVec.lean ====
/- The reference's steps as functions of whole arrays, and each of them read at a row as the mathematics of one row. -/
module

public import proofs.«01_k».proof.Proof.Gen.ReferenceIdeal
public import proofs.«01_k».proof.Proof.Row
public import Idealize.ShloMosaic.PureOps.Ideal
public import Idealize.ShloMosaic.Lib.Pointwise
public import Idealize.ShloMosaic.Lib.Routing.Ops

@[expose] public section

set_option maxRecDepth 16384

noncomputable section

namespace Cert.ReferenceIdeal.Vector

open Cert.ReferenceIdeal Cert.ReferenceIdeal.Gen Idealize.ShloMosaic Idealize.ShloMosaic.StableHlo

/-- The inner product of two rows, for every row. -/
def dotV (x y : FVec Ideal S4608x256 .f32) : FVec Ideal S4608x1 .f32 :=
  broadcastInDim S4608x1 ![0] bcast_S4608_S4608x1_0
    (Host.reduceAdd (mulf x y) (constant S_ .f32 0x00000000#32) reducesTo_S4608x256_S4608_d1 h_S_)

/-- The length of every row. -/
def normV (x : FVec Ideal S4608x256 .f32) : FVec Ideal S4608x1 .f32 := Host.sqrt (dotV x x)

/-- The squared distance of every row to every code. -/
def distV (x : FVec Ideal S4608x256 .f32) (e : FVec Ideal S1024x256 .f32) : FVec Ideal S4608x1024 .f32 :=
  addf
    (subf (broadcastInDim S4608x1024 ![0, 1] bcast_S4608x1_S4608x1024_0_1 (dotV x x))
      (Host.dotGeneral dot_S4608x256_S256x1024_S4608x1024_1_0_0_1_n_n none
        (mulf (broadcastInDim S4608x256 ![] bcast_S_S4608x256 (constant S_ .f32 0x40000000#32)) x)
        (transpose S256x1024 [1, 0] e transposes_S1024x256_S256x1024_1_0)))
    (broadcastInDim S4608x1024 ![0, 1] bcast_S1x1024_S4608x1024_0_1 (broadcastInDim S1x1024 ![1] bcast_S1024_S1x1024_1
      (Host.reduceAdd (mulf e e) (constant S_ .f32 0x00000000#32) reducesTo_S1024x256_S1024_d1 h_S_)))

/-- The positions that a search along the rows of a table ends at. -/
def argG {n0 : ℕ} {u : Shape} (x : FVec Ideal (⟨2, ![n0, 1024]⟩ : Shape) .f32) (y : IVec (⟨2, ![n0, 1024]⟩ : Shape) 32)
    (ix : FVec Ideal u .f32) (iy : IVec u 32) (h : (⟨2, ![n0, 1024]⟩ : Shape).ReducesTo [1] ⟨1, ![n0]⟩) (hu : 0 < u.numel) :
    IVec (⟨1, ![n0]⟩ : Shape) 32 :=
  fun j => (Host.argReduce (reducer_argmin_f32_i32 (F := Ideal)) x y ix iy h hu j).2

/-- The position of the least distance of every row. -/
def argV (d : FVec Ideal S4608x1024 .f32) : IVec S4608 32 :=
  argG (n0 := 4608) d (iotaInDim S4608x1024 32 1) (constant S_ .f32 0x7F800000#32) (constantI S_ 32 0#32)
    reducesTo_S4608x1024_S4608_d1 h_S_

/-- The same, written out. -/
theorem argV_eq (d : FVec Ideal S4608x1024 .f32) :
    (fun j => (Host.argReduce (reducer_argmin_f32_i32 (F := Ideal)) d (iotaInDim S4608x1024 32 1)
      (constant S_ .f32 0x7F800000#32) (constantI S_ 32 0#32) reducesTo_S4608x1024_S4608_d1 h_S_ j).2) = argV d := rfl

/-- The rows of the codebook at those positions. -/
def takeV (e : FVec Ideal S1024x256 .f32) (a : IVec S4608 32) : FVec Ideal S4608x256 .f32 :=
  let i : IVec S4608x1 32 := broadcastInDim S4608x1 ![0] bcast_S4608_S4608x1_0
    (select (cmpi .slt a (broadcastInDim S4608 ![] bcast_S_S4608 (constantI S_ 32 0#32)))
      (addi a (broadcastInDim S4608 ![] bcast_S_S4608 (constantI S_ 32 1024#32))) a)
  select (broadcastInDim S4608x256 ![0] bcast_S4608_S4608x256_0
      (Host.reduce IntOp.andi (andi
          (cmpi .sge i (broadcastInDim S4608x1 ![] bcast_S_S4608x1 (constantI S_ 32 0#32)))
          (cmpi .sle i (broadcastInDim S4608x1 ![0, 1] bcast_S1x1_S4608x1_0_1
            (broadcastInDim S1x1 ![1] bcast_S1_S1x1_1 (constantI S1 32 1023#32)))))
        (constantI S_ 1 1#1) reducesTo_S4608x1_S4608_d1 h_S_))
    (Host.gather gather_S1024x256_S4608x1_S4608x256_1_0_n_n_0_1_1256 e i)
    (broadcastInDim S4608x256 ![] bcast_S_S4608x256 (constant S_ .f32 0x7FC00000#32))

/-- The mean squared difference of the codes and the rows. -/
def lossV (q x : FVec Ideal S4608x256 .f32) : FVec Ideal S_ .f32 :=
  Host.divf (Host.reduceAdd (mulf (subf q x) (subf q x)) (constant S_ .f32 0x00000000#32) reducesTo_S4608x256_S_d0_1 h_S_)
    (constant S_ .f32 0x49900000#32)

/-- Every row over its length, the length kept off zero. -/
def unitV (x : FVec Ideal S4608x256 .f32) (n : FVec Ideal S4608x1 .f32) : FVec Ideal S4608x256 .f32 :=
  Host.divf x (broadcastInDim S4608x256 ![0, 1] bcast_S4608x1_S4608x256_0_1
    (addf n (broadcastInDim S4608x1 ![] bcast_S_S4608x1 (constant S_ .f32 0x358637BD#32))))

/-- The sum over its length. -/
def overV (s : FVec Ideal S4608x256 .f32) (n : FVec Ideal S4608x1 .f32) : FVec Ideal S4608x256 .f32 :=
  Host.divf s (broadcastInDim S4608x256 ![0, 1] bcast_S4608x1_S4608x256_0_1 n)

/-- Twice a number of every row, times the row. -/
def twiceV (n : FVec Ideal S4608x1 .f32) (w : FVec Ideal S4608x256 .f32) : FVec Ideal S4608x256 .f32 :=
  mulf (broadcastInDim S4608x256 ![0, 1] bcast_S4608x1_S4608x256_0_1
    (mulf (broadcastInDim S4608x1 ![] bcast_S_S4608x1 (constant S_ .f32 0x40000000#32)) n)) w

/-- The rotated row. -/
def rotV (x w q : FVec Ideal S4608x256 .f32) (ew ez : FVec Ideal S4608x1 .f32) : FVec Ideal S4608x256 .f32 :=
  addf (subf x (twiceV ew w)) (twiceV ez q)

/-- The rotated row at the length of its code. -/
def scaleV (t : FVec Ideal S4608x256 .f32) (zn qn : FVec Ideal S4608x1 .f32) : FVec Ideal S4608x256 .f32 :=
  mulf t (broadcastInDim S4608x256 ![0, 1] bcast_S4608x1_S4608x256_0_1
    (Host.divf qn (addf zn (broadcastInDim S4608x1 ![] bcast_S_S4608x1 (constant S_ .f32 0x358637BD#32)))))

theorem dotV_at (x y : FVec Ideal S4608x256 .f32) (i : Fin 4608) (z : Fin 1) :
    dotV x y (ix2 i z) = Row.dot (fun d => x (ix2 i d)) (fun d => y (ix2 i d)) := by
  pointwise [dotV, Row.dot]

theorem normV_at (x : FVec Ideal S4608x256 .f32) (i : Fin 4608) (z : Fin 1) :
    normV x (ix2 i z) = Row.nrm (fun d => x (ix2 i d)) := by
  pointwise [normV, dotV_at, Row.nrm, Row.sq]
  rfl

theorem distV_at (x : FVec Ideal S4608x256 .f32) (e : FVec Ideal S1024x256 .f32) (i : Fin 4608) (j : Fin 1024) :
    distV x e (ix2 i j) = Row.dist (fun d => x (ix2 i d)) (fun j d => e (ix2 j d)) j := by
  pointwise [distV, dotV_at, Row.dist, Row.sq, Row.two]
  rfl

/-- One step of the search keeps the pair with the lesser value, and at equal values the one with the lesser position. -/
theorem argmin_step (a b : EReal × BitVec 32) :
    (reducer_argmin_f32_i32 (F := Ideal) a b = a ∧ (a.1 < b.1 ∨ a.1 = b.1 ∧ a.2.toInt ≤ b.2.toInt))
    ∨ (reducer_argmin_f32_i32 (F := Ideal) a b = b ∧ (b.1 < a.1 ∨ a.1 = b.1 ∧ b.2.toInt ≤ a.2.toInt)) := by
  obtain ⟨x, n⟩ := a
  obtain ⟨y, k⟩ := b
  unfold reducer_argmin_f32_i32
  simp only [Ideal.cmpf_def, Ideal.cmp, Scalar.select, IntOp.ori, IntOp.andi, IntOp.cmpi]
  rcases lt_trichotomy x y with h | h | h
  · left
    simp [h]
    intro h'
    exact absurd (show 1#1 ||| _ = 1#1 from BitVec.allOnes_or) h'
  · subst h
    by_cases hn : n.toInt < k.toInt
    · left
      simp [BitVec.slt, hn, hn.le]
    · right
      simp [BitVec.slt, hn]
      omega
  · right
    simp [h, h.le, h.ne', not_lt.2 h.le]

/-- The search over a list ends at one of the pairs, and at a least one. -/
theorem argmin_fold (l : List (EReal × BitVec 32)) (a : EReal × BitVec 32) :
    (l.foldl (reducer_argmin_f32_i32 (F := Ideal)) a ∈ a :: l) ∧ ∀ q ∈ a :: l,
      (l.foldl (reducer_argmin_f32_i32 (F := Ideal)) a).1 < q.1
      ∨ ((l.foldl (reducer_argmin_f32_i32 (F := Ideal)) a).1 = q.1
        ∧ (l.foldl (reducer_argmin_f32_i32 (F := Ideal)) a).2.toInt ≤ q.2.toInt) := by
  induction l generalizing a with
  | nil => simp
  | cons b l ih =>
    rw [List.foldl_cons]
    obtain ⟨hm, hl⟩ := ih (reducer_argmin_f32_i32 (F := Ideal) a b)
    have hs := argmin_step a b
    generalize reducer_argmin_f32_i32 (F := Ideal) a b = c at hm hl hs
    generalize l.foldl (reducer_argmin_f32_i32 (F := Ideal)) c = r at hm hl
    have hc := hl c (List.mem_cons_self ..)
    have key : ∀ q : EReal × BitVec 32, (c.1 < q.1 ∨ c.1 = q.1 ∧ c.2.toInt ≤ q.2.toInt) →
        (r.1 < q.1 ∨ r.1 = q.1 ∧ r.2.toInt ≤ q.2.toInt) := by
      intro q hq
      rcases hc with hc | ⟨hc, hc'⟩
      · rcases hq with hq | ⟨hq, hq'⟩
        · exact Or.inl (hc.trans hq)
        · exact Or.inl (hq ▸ hc)
      · rcases hq with hq | ⟨hq, hq'⟩
        · exact Or.inl (hc ▸ hq)
        · exact Or.inr ⟨hc.trans hq, hc'.trans hq'⟩
    refine ⟨?_, fun q hq => ?_⟩
    · rcases List.mem_cons.1 hm with h | h
      · rcases hs with ⟨h', -⟩ | ⟨h', -⟩
        · rw [h, h']; exact List.mem_cons_self ..
        · rw [h, h']; exact List.mem_cons_of_mem _ (List.mem_cons_self ..)
      · exact List.mem_cons_of_mem _ (List.mem_cons_of_mem _ h)
    · rcases List.mem_cons.1 hq with rfl | hq
      · rcases hs with ⟨rfl, -⟩ | ⟨rfl, h⟩
        · exact hc
        · refine key _ ?_
          rcases h with h | ⟨h, h'⟩
          · exact Or.inl h
          · exact Or.inr ⟨h.symm, h'⟩
      · rcases List.mem_cons.1 hq with rfl | hq
        · rcases hs with ⟨rfl, h⟩ | ⟨rfl, -⟩
          · exact key _ h
          · exact hc
        · exact hl q (List.mem_cons_of_mem _ hq)

theorem toInt_ofNat_lt {n : ℕ} (h : n < 1024) : (BitVec.ofNat 32 n).toInt = n := by
  rw [BitVec.toInt_eq_toNat_of_lt]
  · rw [BitVec.toNat_ofNat, Nat.mod_eq_of_lt (by omega)]
  · rw [BitVec.toNat_ofNat, Nat.mod_eq_of_lt (by omega)]
    omega

theorem ofBits_inf : Ideal.ofBits .f32 0x7F800000#32 = ⊤ := by
  simp [Ideal.ofBits, Ideal.ieee]

/-- The pairs that a search along the rows of a table meets at one row. -/
theorem fiber_mem {n0 n1 : ℕ} {α β : Type} (x : (⟨2, ![n0, n1]⟩ : Shape).Idx → α) (y : (⟨2, ![n0, n1]⟩ : Shape).Idx → β)
    (h : (⟨2, ![n0, n1]⟩ : Shape).ReducesTo [1] ⟨1, ![n0]⟩) (i : Fin n0) (q : α × β) :
    q ∈ Host.argReduceFiber x y h (ix1 i) ↔ ∃ k : Fin n1, q = (x (ix2 i k), y (ix2 i k)) := by
  unfold Host.argReduceFiber
  rw [List.mem_map]
  constructor
  · rintro ⟨n, hn, rfl⟩
    rw [List.mem_filter, decide_eq_true_eq, Shape.ReducesTo.fiber_r2_a1] at hn
    obtain ⟨-, k, hk⟩ := hn
    rw [← hk]
    exact ⟨k, rfl⟩
  · rintro ⟨k, rfl⟩
    refine ⟨(⟨2, ![n0, n1]⟩ : Shape).rowMajor (ix2 i k), ?_, ?_⟩
    · rw [List.mem_filter, decide_eq_true_eq, Shape.ReducesTo.fiber_r2_a1]
      exact ⟨List.mem_finRange _, k, by rw [Equiv.symm_apply_apply]; rfl⟩
    · rw [Equiv.symm_apply_apply]

/-- The search over a row's pairs ends at the first position of its least value. -/
theorem argmin_pos (l : List (EReal × BitVec 32)) (f : Fin 1024 → EReal)
    (hf : ∀ q, q ∈ l ↔ ∃ k : Fin 1024, q = (f k, BitVec.ofNat 32 k.val)) :
    (l.foldl (reducer_argmin_f32_i32 (F := Ideal)) ((⊤ : EReal), 0#32)).2 = BitVec.ofNat 32 (Row.pos f).val := by
  obtain ⟨hm, hl⟩ := argmin_fold l (⊤, 0#32)
  generalize l.foldl (reducer_argmin_f32_i32 (F := Ideal)) ((⊤ : EReal), 0#32) = r at hm hl ⊢
  rcases List.mem_cons.1 hm with rfl | hm
  · have h : Row.IsPos f 0 := by
      have ht : ∀ k, f k = ⊤ := fun k => by
        rcases hl _ (List.mem_cons_of_mem _ ((hf _).2 ⟨k, rfl⟩)) with h | ⟨h, -⟩
        · exact absurd h not_top_lt
        · exact h.symm
      exact ⟨fun k => by simp only [ht]; exact le_rfl, fun k _ => Fin.zero_le _⟩
    rw [Row.pos_eq h]
    rfl
  · obtain ⟨j, rfl⟩ := (hf _).1 hm
    have h : Row.IsPos f j := by
      refine ⟨fun k => ?_, fun k hk => ?_⟩
      · rcases hl _ (List.mem_cons_of_mem _ ((hf _).2 ⟨k, rfl⟩)) with h | ⟨h, -⟩
        · exact h.le
        · exact h.le
      · rcases hl _ (List.mem_cons_of_mem _ ((hf _).2 ⟨k, rfl⟩)) with h | ⟨-, h⟩
        · exact absurd h (by simp only [hk]; exact lt_irrefl _)
        · simp only [toInt_ofNat_lt j.isLt, toInt_ofNat_lt k.isLt] at h
          exact Fin.le_def.2 (by exact_mod_cast h)
    rw [Row.pos_eq h]

/-- The search along the rows of any table of that width, at one row. -/
theorem argmin_at {n0 : ℕ} {u : Shape} (x : FVec Ideal (⟨2, ![n0, 1024]⟩ : Shape) .f32) (y : IVec (⟨2, ![n0, 1024]⟩ : Shape) 32)
    (ix : FVec Ideal u .f32) (iy : IVec u 32) (h : (⟨2, ![n0, 1024]⟩ : Shape).ReducesTo [1] ⟨1, ![n0]⟩) (hu : 0 < u.numel)
    (i : Fin n0) (hy : ∀ k : Fin 1024, y (ix2 i k) = BitVec.ofNat 32 k.val) (hx : ix (Shape.Idx.first hu) = (⊤ : EReal))
    (hz : iy (Shape.Idx.first hu) = 0#32) :
    argG x y ix iy h hu (ix1 i)
      = BitVec.ofNat 32 (Row.pos fun j => x (ix2 i j)).val := by
  unfold argG
  rw [Ideal.argReduce_eq_reduce2, Host.reduce2_eq_foldl_fiber, hx, hz]
  refine argmin_pos _ (fun j => x (ix2 i j)) fun q => ?_
  rw [fiber_mem]
  simp only [hy]

theorem iota_at (i : Fin 4608) (k : Fin 1024) : iotaInDim S4608x1024 32 1 (ix2 i k) = BitVec.ofNat 32 k.val := by
  pointwise []

theorem argV_at (x : FVec Ideal S4608x1024 .f32) (i : Fin 4608) :
    argV x (ix1 i) = BitVec.ofNat 32 (Row.pos fun j => x (ix2 i j)).val :=
  argmin_at (n0 := 4608) x (iotaInDim S4608x1024 32 1) (constant S_ .f32 0x7F800000#32)
    (constantI S_ 32 0#32) reducesTo_S4608x1024_S4608_d1 h_S_ i (iota_at i) ofBits_inf rfl

theorem fold_andi_one (n : ℕ) : (Finset.univ : Finset (Fin n)).fold IntOp.andi 1#1 (fun _ => 1#1) = 1#1 := by
  have h : ∀ s : Finset (Fin n), s.fold IntOp.andi 1#1 (fun _ => 1#1) = 1#1 := by
    intro s
    induction s using Finset.cons_induction with
    | empty => rfl
    | cons a s ha ih => rw [Finset.fold_cons, ih]; rfl
  exact h _

theorem wrap_at (n : ℕ) (h : n < 1024) :
    Scalar.select (IntOp.cmpi .slt (BitVec.ofNat 32 n) 0#32) (IntOp.addi (BitVec.ofNat 32 n) 1024#32) (BitVec.ofNat 32 n)
      = BitVec.ofNat 32 n := by
  have : ¬ (BitVec.ofNat 32 n).slt 0#32 := by
    simp [BitVec.slt, toInt_ofNat_lt h]
  simp [IntOp.cmpi, Scalar.select, this]

theorem takeV_at (e : FVec Ideal S1024x256 .f32) (a : IVec S4608 32) (i : Fin 4608) (d : Fin 256) (n : Fin 1024)
    (ha : a (ix1 i) = BitVec.ofNat 32 n.val) : takeV e a (ix2 i d) = e (ix2 n d) := by
  pointwise [takeV]
  have hge : IntOp.cmpi .sge (BitVec.ofNat 32 n.val) 0#32 = 1#1 := by
    simp [IntOp.cmpi, BitVec.sle, toInt_ofNat_lt n.isLt]
  have hle : IntOp.cmpi .sle (BitVec.ofNat 32 n.val) 1023#32 = 1#1 := by
    have : ((n.val : ℕ) : ℤ) ≤ 1023 := by have := n.isLt; omega
    simp [IntOp.cmpi, BitVec.sle, toInt_ofNat_lt n.isLt, this]
  simp only [ha, wrap_at n.val n.isLt, hge, hle]
  have h1 : IntOp.andi 1#1 1#1 = 1#1 := rfl
  simp only [h1, fold_andi_one]
  have hs : ∀ u v : EReal, Scalar.select 1#1 u v = u := fun _ _ => rfl
  rw [hs]
  refine Routing.gather_row (nb := 1024) (B := 256) (n := 4608) gather_S1024x256_S4608x1_S4608x256_1_0_n_n_0_1_1256
    rfl rfl rfl rfl rfl e _ i d n ?_ (by norm_num)
  have hi : broadcastInDim S4608x1 ![0] bcast_S4608_S4608x1_0
    (select (cmpi .slt a (broadcastInDim S4608 ![] bcast_S_S4608 (constantI S_ 32 0#32)))
      (addi a (broadcastInDim S4608 ![] bcast_S_S4608 (constantI S_ 32 1024#32))) a) (ix2 i (0 : Fin 1)) = BitVec.ofNat 32 n.val := by
    pointwise []
    rw [ha, wrap_at n.val n.isLt]
  exact hi

theorem lossV_at (x q : FVec Ideal S4608x256 .f32) (z : S_.Idx) :
    lossV q x z = Ideal.div (∑ i, Row.miss (fun d => x (ix2 i d)) (fun d => q (ix2 i d))) (Ideal.ofBits .f32 0x49900000#32) := by
  pointwise [lossV, Row.miss]

theorem unitV_at (x : FVec Ideal S4608x256 .f32) (n : FVec Ideal S4608x1 .f32) (i : Fin 4608) (d : Fin 256) :
    unitV x n (ix2 i d) = Ideal.div (x (ix2 i d)) (n (ix2 i 0) + Row.eps) := by
  pointwise [unitV, Row.eps]

theorem overV_at (x : FVec Ideal S4608x256 .f32) (n : FVec Ideal S4608x1 .f32) (i : Fin 4608) (d : Fin 256) :
    overV x n (ix2 i d) = Ideal.div (x (ix2 i d)) (n (ix2 i 0)) := by
  pointwise [overV]

theorem rotV_at (x w q : FVec Ideal S4608x256 .f32) (ew ez : FVec Ideal S4608x1 .f32) (i : Fin 4608) (d : Fin 256) :
    rotV x w q ew ez (ix2 i d) = (x (ix2 i d) - (Row.two * ew (ix2 i 0)) * w (ix2 i d)) + (Row.two * ez (ix2 i 0)) * q (ix2 i d) := by
  pointwise [rotV, twiceV, Row.two]

theorem scaleV_at (t : FVec Ideal S4608x256 .f32) (zn qn : FVec Ideal S4608x1 .f32) (i : Fin 4608) (d : Fin 256) :
    scaleV t zn qn (ix2 i d) = t (ix2 i d) * Ideal.div (qn (ix2 i 0)) (zn (ix2 i 0) + Row.eps) := by
  pointwise [scaleV, Row.eps]

/-- The codes found for the rows. -/
def quantV (x : FVec Ideal S4608x256 .f32) (e : FVec Ideal S1024x256 .f32) : FVec Ideal S4608x256 .f32 :=
  takeV e (argV (distV x e))

theorem quantV_at (x : FVec Ideal S4608x256 .f32) (e : FVec Ideal S1024x256 .f32) (i : Fin 4608) (d : Fin 256) :
    quantV x e (ix2 i d) = Row.code (fun d => x (ix2 i d)) (fun j d => e (ix2 j d)) d := by
  unfold quantV
  rw [takeV_at _ _ _ _ _ (argV_at _ _)]
  simp only [distV_at]
  rfl

/-- The rows rotated, for given codes. -/
def turnedV (x q : FVec Ideal S4608x256 .f32) : FVec Ideal S4608x256 .f32 :=
  let zn := normV x
  let qn := normV q
  let z := unitV x zn
  let c := unitV q qn
  let w := overV (addf z c) (normV (addf z c))
  scaleV (rotV x w c (dotV x w) (dotV x z)) zn qn

theorem turnedV_at (x q : FVec Ideal S4608x256 .f32) (i : Fin 4608) (d : Fin 256) :
    turnedV x q (ix2 i d) = Row.rot (fun d => x (ix2 i d)) (fun d => q (ix2 i d)) d := by
  have hs : ∀ (a b : FVec Ideal S4608x256 .f32) (i : Fin 4608) (d : Fin 256), addf a b (ix2 i d) = a (ix2 i d) + b (ix2 i d) :=
    fun _ _ _ _ => rfl
  simp only [turnedV, scaleV_at, rotV_at, overV_at, unitV_at, normV_at, dotV_at, hs]
  rfl

/-- The rows rotated. -/
def stepV (x : FVec Ideal S4608x256 .f32) (e : FVec Ideal S1024x256 .f32) : FVec Ideal S4608x256 .f32 :=
  turnedV x (quantV x e)

theorem stepV_at (x : FVec Ideal S4608x256 .f32) (e : FVec Ideal S1024x256 .f32) (i : Fin 4608) (d : Fin 256) :
    stepV x e (ix2 i d)
      = Row.rot (fun d => x (ix2 i d)) (Row.code (fun d => x (ix2 i d)) (fun j d => e (ix2 j d))) d := by
  unfold stepV
  rw [turnedV_at]
  simp only [quantV_at]

end Cert.ReferenceIdeal.Vector

end
-- ==== Proof.RefStage1.lean ====
/- Stage two of the reference: what its buffers end holding, one buffer in terms of the buffers it is computed from. -/
module

public import proofs.«01_k».proof.Proof.RefAt
public import proofs.«01_k».proof.Proof.RefVec

@[expose] public section

set_option maxRecDepth 16384
set_option maxHeartbeats 1000000

noncomputable section

namespace Cert.ReferenceIdeal.Stage1

open Cert.ReferenceIdeal Cert.ReferenceIdeal.Gen Cert.ReferenceIdeal.Pieces Cert.ReferenceIdeal.Vector Idealize.ShloMosaic
open Idealize.ShloMosaic.TcCoe Idealize.SL.Sem Idealize.ShloMosaic.StableHlo

variable (V : Valuation τ sig (Elt Ideal))

theorem book : at_ V main_v65 = shapeCast S1024x256 (extractStridedSlice S1x1024x256 ![1, 0, 0] (at_ V main_arg1) slices_S4x1024x256_S1x1024x256_1_0_0) shapeCasts_S1x1024x256_S1024x256 := by
  unfold at_
  rw [thru_at pieces V 18 _ rfl main_v65 (by decide), thru_keep pieces V 18 main_arg1 (by decide)]
  generalize thru (List.take 18 pieces) V = U
  dsimp only [inP]
  after_results
  try simp only [TRef.ofBuf_toBuf]
  rfl

theorem rows : at_ V main_v66 = shapeCast S4608x256 (at_ V main_v61) shapeCasts_S8x576x256_S4608x256 := by
  unfold at_
  rw [thru_at pieces V 18 _ rfl main_v66 (by decide), thru_keep pieces V 18 main_v61 (by decide)]
  generalize thru (List.take 18 pieces) V = U
  dsimp only [inP]
  after_results
  try simp only [TRef.ofBuf_toBuf]
  rfl

theorem dist : at_ V main_v80 = distV (at_ V main_v66) (at_ V main_v65) := by
  unfold at_
  rw [thru_at pieces V 19 _ rfl main_v80 (by decide), thru_keep pieces V 19 main_v66 (by decide), thru_keep pieces V 19 main_v65 (by decide)]
  generalize thru (List.take 19 pieces) V = U
  dsimp only [distP]
  after_results
  try simp only [TRef.ofBuf_toBuf]
  rfl

theorem arg : at_ V main_v81 = argV (at_ V main_v80) := by
  unfold at_
  rw [thru_at pieces V 20 _ rfl main_v81 (by decide), thru_keep pieces V 20 main_v80 (by decide)]
  generalize thru (List.take 20 pieces) V = U
  dsimp only [argP]
  after_results
  try simp only [TRef.ofBuf_toBuf]
  exact argV_eq _

theorem take : at_ V main_v82 = takeV (at_ V main_v65) (at_ V main_v81) := by
  unfold at_
  rw [thru_at pieces V 21 _ rfl main_v82 (by decide), thru_keep pieces V 21 main_v65 (by decide), thru_keep pieces V 21 main_v81 (by decide)]
  generalize thru (List.take 21 pieces) V = U
  dsimp only [takeP]
  after_results
  try simp only [TRef.ofBuf_toBuf]
  rfl

theorem loss : at_ V main_v86 = lossV (at_ V main_v82) (at_ V main_v66) := by
  unfold at_
  rw [thru_at pieces V 22 _ rfl main_v86 (by decide), thru_keep pieces V 22 main_v82 (by decide), thru_keep pieces V 22 main_v66 (by decide)]
  generalize thru (List.take 22 pieces) V = U
  dsimp only [lossP]
  after_results
  try simp only [TRef.ofBuf_toBuf]
  rfl

theorem zn : at_ V main_v87 = normV (at_ V main_v66) := by
  unfold at_
  rw [thru_at pieces V 23 _ rfl main_v87 (by decide), thru_keep pieces V 23 main_v66 (by decide)]
  generalize thru (List.take 23 pieces) V = U
  dsimp only [normP]
  after_results
  try simp only [TRef.ofBuf_toBuf]
  rfl

theorem qn : at_ V main_v88 = normV (at_ V main_v82) := by
  unfold at_
  rw [thru_at pieces V 24 _ rfl main_v88 (by decide), thru_keep pieces V 24 main_v82 (by decide)]
  generalize thru (List.take 24 pieces) V = U
  dsimp only [normP]
  after_results
  try simp only [TRef.ofBuf_toBuf]
  rfl

theorem z : at_ V main_v92 = unitV (at_ V main_v66) (at_ V main_v87) := by
  unfold at_
  rw [thru_at pieces V 25 _ rfl main_v92 (by decide), thru_keep pieces V 25 main_v66 (by decide), thru_keep pieces V 25 main_v87 (by decide)]
  generalize thru (List.take 25 pieces) V = U
  dsimp only [unitP]
  after_results
  try simp only [TRef.ofBuf_toBuf]
  rfl

theorem q : at_ V main_v96 = unitV (at_ V main_v82) (at_ V main_v88) := by
  unfold at_
  rw [thru_at pieces V 26 _ rfl main_v96 (by decide), thru_keep pieces V 26 main_v82 (by decide), thru_keep pieces V 26 main_v88 (by decide)]
  generalize thru (List.take 26 pieces) V = U
  dsimp only [unitP]
  after_results
  try simp only [TRef.ofBuf_toBuf]
  rfl

theorem s : at_ V main_v97 = addf (F := Ideal) (s := S4608x256) (φ := .f32) (at_ V main_v92) (at_ V main_v96) := by
  unfold at_
  rw [thru_at pieces V 27 _ rfl main_v97 (by decide), thru_keep pieces V 27 main_v92 (by decide), thru_keep pieces V 27 main_v96 (by decide)]
  generalize thru (List.take 27 pieces) V = U
  dsimp only [sumP]
  after_results
  try simp only [TRef.ofBuf_toBuf]
  rfl

theorem s' : at_ V main_v98 = addf (F := Ideal) (s := S4608x256) (φ := .f32) (at_ V main_v92) (at_ V main_v96) := by
  unfold at_
  rw [thru_at pieces V 27 _ rfl main_v98 (by decide), thru_keep pieces V 27 main_v92 (by decide), thru_keep pieces V 27 main_v96 (by decide)]
  generalize thru (List.take 27 pieces) V = U
  dsimp only [sumP]
  after_results
  try simp only [TRef.ofBuf_toBuf]
  rfl

theorem sn : at_ V main_v99 = normV (at_ V main_v98) := by
  unfold at_
  rw [thru_at pieces V 28 _ rfl main_v99 (by decide), thru_keep pieces V 28 main_v98 (by decide)]
  generalize thru (List.take 28 pieces) V = U
  dsimp only [normP]
  after_results
  try simp only [TRef.ofBuf_toBuf]
  rfl

theorem w : at_ V main_v101 = overV (at_ V main_v97) (at_ V main_v99) := by
  unfold at_
  rw [thru_at pieces V 29 _ rfl main_v101 (by decide), thru_keep pieces V 29 main_v97 (by decide), thru_keep pieces V 29 main_v99 (by decide)]
  generalize thru (List.take 29 pieces) V = U
  dsimp only [overP]
  after_results
  try simp only [TRef.ofBuf_toBuf]
  rfl

theorem ew : at_ V main_v104 = dotV (at_ V main_v66) (at_ V main_v101) := by
  unfold at_
  rw [thru_at pieces V 30 _ rfl main_v104 (by decide), thru_keep pieces V 30 main_v66 (by decide), thru_keep pieces V 30 main_v101 (by decide)]
  generalize thru (List.take 30 pieces) V = U
  dsimp only [dotP]
  after_results
  try simp only [TRef.ofBuf_toBuf]
  rfl

theorem ez : at_ V main_v107 = dotV (at_ V main_v66) (at_ V main_v92) := by
  unfold at_
  rw [thru_at pieces V 31 _ rfl main_v107 (by decide), thru_keep pieces V 31 main_v66 (by decide), thru_keep pieces V 31 main_v92 (by decide)]
  generalize thru (List.take 31 pieces) V = U
  dsimp only [dotP]
  after_results
  try simp only [TRef.ofBuf_toBuf]
  rfl

theorem turn : at_ V main_v117 = rotV (at_ V main_v66) (at_ V main_v101) (at_ V main_v96) (at_ V main_v104) (at_ V main_v107) := by
  unfold at_
  rw [thru_at pieces V 32 _ rfl main_v117 (by decide), thru_keep pieces V 32 main_v66 (by decide), thru_keep pieces V 32 main_v101 (by decide), thru_keep pieces V 32 main_v96 (by decide), thru_keep pieces V 32 main_v104 (by decide), thru_keep pieces V 32 main_v107 (by decide)]
  generalize thru (List.take 32 pieces) V = U
  dsimp only [rotP]
  after_results
  try simp only [TRef.ofBuf_toBuf]
  rfl

theorem scale : at_ V main_v122 = scaleV (at_ V main_v117) (at_ V main_v87) (at_ V main_v88) := by
  unfold at_
  rw [thru_at pieces V 33 _ rfl main_v122 (by decide), thru_keep pieces V 33 main_v117 (by decide), thru_keep pieces V 33 main_v87 (by decide), thru_keep pieces V 33 main_v88 (by decide)]
  generalize thru (List.take 33 pieces) V = U
  dsimp only [scaleP]
  after_results
  try simp only [TRef.ofBuf_toBuf]
  rfl

theorem left : at_ V main_v124 = subf (F := Ideal) (s := S8x576x256) (φ := .f32) (at_ V main_v61) (shapeCast S8x576x256 (at_ V main_v122) shapeCasts_S4608x256_S8x576x256) := by
  unfold at_
  rw [thru_at pieces V 34 _ rfl main_v124 (by decide), thru_keep pieces V 34 main_v61 (by decide), thru_keep pieces V 34 main_v122 (by decide)]
  generalize thru (List.take 34 pieces) V = U
  dsimp only [outP]
  after_results
  try simp only [TRef.ofBuf_toBuf]
  rfl

theorem sum : at_ V main_v125 = addf (F := Ideal) (s := S8x576x256) (φ := .f32) (at_ V main_v62) (shapeCast S8x576x256 (at_ V main_v122) shapeCasts_S4608x256_S8x576x256) := by
  unfold at_
  rw [thru_at pieces V 34 _ rfl main_v125 (by decide), thru_keep pieces V 34 main_v62 (by decide), thru_keep pieces V 34 main_v122 (by decide)]
  generalize thru (List.take 34 pieces) V = U
  dsimp only [outP]
  after_results
  try simp only [TRef.ofBuf_toBuf]
  rfl

theorem idx : at_ V main_v126 = shapeCast S8x576 (at_ V main_v81) shapeCasts_S4608_S8x576 := by
  unfold at_
  rw [thru_at pieces V 34 _ rfl main_v126 (by decide), thru_keep pieces V 34 main_v81 (by decide)]
  generalize thru (List.take 34 pieces) V = U
  dsimp only [outP]
  after_results
  try simp only [TRef.ofBuf_toBuf]
  rfl

/-- The rotated rows of the stage. -/
theorem step : at_ V main_v122 = stepV (at_ V main_v66) (at_ V main_v65) := by
  rw [scale, turn, w, sn, s', s, q, z, qn, zn, ew, ez, w, sn, s', s, q, z, qn, zn, take, arg, dist]
  rfl

/-- The positions of the stage. -/
theorem found : at_ V main_v81 = argV (distV (at_ V main_v66) (at_ V main_v65)) := by
  rw [arg, dist]

/-- The loss of the stage. -/
theorem missed : at_ V main_v86 = lossV (quantV (at_ V main_v66) (at_ V main_v65)) (at_ V main_v66) := by
  rw [loss, take, arg, dist]
  rfl

end Cert.ReferenceIdeal.Stage1

end
-- ==== Proof.RefStage2.lean ====
/- Stage three of the reference: what its buffers end holding, one buffer in terms of the buffers it is computed from. -/
module

public import proofs.«01_k».proof.Proof.RefAt
public import proofs.«01_k».proof.Proof.RefVec

@[expose] public section

set_option maxRecDepth 16384
set_option maxHeartbeats 1000000

noncomputable section

namespace Cert.ReferenceIdeal.Stage2

open Cert.ReferenceIdeal Cert.ReferenceIdeal.Gen Cert.ReferenceIdeal.Pieces Cert.ReferenceIdeal.Vector Idealize.ShloMosaic
open Idealize.ShloMosaic.TcCoe Idealize.SL.Sem Idealize.ShloMosaic.StableHlo

variable (V : Valuation τ sig (Elt Ideal))

theorem book : at_ V main_v128 = shapeCast S1024x256 (extractStridedSlice S1x1024x256 ![2, 0, 0] (at_ V main_arg1) slices_S4x1024x256_S1x1024x256_2_0_0) shapeCasts_S1x1024x256_S1024x256 := by
  unfold at_
  rw [thru_at pieces V 35 _ rfl main_v128 (by decide), thru_keep pieces V 35 main_arg1 (by decide)]
  generalize thru (List.take 35 pieces) V = U
  dsimp only [inP]
  after_results
  try simp only [TRef.ofBuf_toBuf]
  rfl

theorem rows : at_ V main_v129 = shapeCast S4608x256 (at_ V main_v124) shapeCasts_S8x576x256_S4608x256 := by
  unfold at_
  rw [thru_at pieces V 35 _ rfl main_v129 (by decide), thru_keep pieces V 35 main_v124 (by decide)]
  generalize thru (List.take 35 pieces) V = U
  dsimp only [inP]
  after_results
  try simp only [TRef.ofBuf_toBuf]
  rfl

theorem dist : at_ V main_v143 = distV (at_ V main_v129) (at_ V main_v128) := by
  unfold at_
  rw [thru_at pieces V 36 _ rfl main_v143 (by decide), thru_keep pieces V 36 main_v129 (by decide), thru_keep pieces V 36 main_v128 (by decide)]
  generalize thru (List.take 36 pieces) V = U
  dsimp only [distP]
  after_results
  try simp only [TRef.ofBuf_toBuf]
  rfl

theorem arg : at_ V main_v144 = argV (at_ V main_v143) := by
  unfold at_
  rw [thru_at pieces V 37 _ rfl main_v144 (by decide), thru_keep pieces V 37 main_v143 (by decide)]
  generalize thru (List.take 37 pieces) V = U
  dsimp only [argP]
  after_results
  try simp only [TRef.ofBuf_toBuf]
  exact argV_eq _

theorem take : at_ V main_v145 = takeV (at_ V main_v128) (at_ V main_v144) := by
  unfold at_
  rw [thru_at pieces V 38 _ rfl main_v145 (by decide), thru_keep pieces V 38 main_v128 (by decide), thru_keep pieces V 38 main_v144 (by decide)]
  generalize thru (List.take 38 pieces) V = U
  dsimp only [takeP]
  after_results
  try simp only [TRef.ofBuf_toBuf]
  rfl

theorem loss : at_ V main_v149 = lossV (at_ V main_v145) (at_ V main_v129) := by
  unfold at_
  rw [thru_at pieces V 39 _ rfl main_v149 (by decide), thru_keep pieces V 39 main_v145 (by decide), thru_keep pieces V 39 main_v129 (by decide)]
  generalize thru (List.take 39 pieces) V = U
  dsimp only [lossP]
  after_results
  try simp only [TRef.ofBuf_toBuf]
  rfl

theorem zn : at_ V main_v150 = normV (at_ V main_v129) := by
  unfold at_
  rw [thru_at pieces V 40 _ rfl main_v150 (by decide), thru_keep pieces V 40 main_v129 (by decide)]
  generalize thru (List.take 40 pieces) V = U
  dsimp only [normP]
  after_results
  try simp only [TRef.ofBuf_toBuf]
  rfl

theorem qn : at_ V main_v151 = normV (at_ V main_v145) := by
  unfold at_
  rw [thru_at pieces V 41 _ rfl main_v151 (by decide), thru_keep pieces V 41 main_v145 (by decide)]
  generalize thru (List.take 41 pieces) V = U
  dsimp only [normP]
  after_results
  try simp only [TRef.ofBuf_toBuf]
  rfl

theorem z : at_ V main_v155 = unitV (at_ V main_v129) (at_ V main_v150) := by
  unfold at_
  rw [thru_at pieces V 42 _ rfl main_v155 (by decide), thru_keep pieces V 42 main_v129 (by decide), thru_keep pieces V 42 main_v150 (by decide)]
  generalize thru (List.take 42 pieces) V = U
  dsimp only [unitP]
  after_results
  try simp only [TRef.ofBuf_toBuf]
  rfl

theorem q : at_ V main_v159 = unitV (at_ V main_v145) (at_ V main_v151) := by
  unfold at_
  rw [thru_at pieces V 43 _ rfl main_v159 (by decide), thru_keep pieces V 43 main_v145 (by decide), thru_keep pieces V 43 main_v151 (by decide)]
  generalize thru (List.take 43 pieces) V = U
  dsimp only [unitP]
  after_results
  try simp only [TRef.ofBuf_toBuf]
  rfl

theorem s : at_ V main_v160 = addf (F := Ideal) (s := S4608x256) (φ := .f32) (at_ V main_v155) (at_ V main_v159) := by
  unfold at_
  rw [thru_at pieces V 44 _ rfl main_v160 (by decide), thru_keep pieces V 44 main_v155 (by decide), thru_keep pieces V 44 main_v159 (by decide)]
  generalize thru (List.take 44 pieces) V = U
  dsimp only [sumP]
  after_results
  try simp only [TRef.ofBuf_toBuf]
  rfl

theorem s' : at_ V main_v161 = addf (F := Ideal) (s := S4608x256) (φ := .f32) (at_ V main_v155) (at_ V main_v159) := by
  unfold at_
  rw [thru_at pieces V 44 _ rfl main_v161 (by decide), thru_keep pieces V 44 main_v155 (by decide), thru_keep pieces V 44 main_v159 (by decide)]
  generalize thru (List.take 44 pieces) V = U
  dsimp only [sumP]
  after_results
  try simp only [TRef.ofBuf_toBuf]
  rfl

theorem sn : at_ V main_v162 = normV (at_ V main_v161) := by
  unfold at_
  rw [thru_at pieces V 45 _ rfl main_v162 (by decide), thru_keep pieces V 45 main_v161 (by decide)]
  generalize thru (List.take 45 pieces) V = U
  dsimp only [normP]
  after_results
  try simp only [TRef.ofBuf_toBuf]
  rfl

theorem w : at_ V main_v164 = overV (at_ V main_v160) (at_ V main_v162) := by
  unfold at_
  rw [thru_at pieces V 46 _ rfl main_v164 (by decide), thru_keep pieces V 46 main_v160 (by decide), thru_keep pieces V 46 main_v162 (by decide)]
  generalize thru (List.take 46 pieces) V = U
  dsimp only [overP]
  after_results
  try simp only [TRef.ofBuf_toBuf]
  rfl

theorem ew : at_ V main_v167 = dotV (at_ V main_v129) (at_ V main_v164) := by
  unfold at_
  rw [thru_at pieces V 47 _ rfl main_v167 (by decide), thru_keep pieces V 47 main_v129 (by decide), thru_keep pieces V 47 main_v164 (by decide)]
  generalize thru (List.take 47 pieces) V = U
  dsimp only [dotP]
  after_results
  try simp only [TRef.ofBuf_toBuf]
  rfl

theorem ez : at_ V main_v170 = dotV (at_ V main_v129) (at_ V main_v155) := by
  unfold at_
  rw [thru_at pieces V 48 _ rfl main_v170 (by decide), thru_keep pieces V 48 main_v129 (by decide), thru_keep pieces V 48 main_v155 (by decide)]
  generalize thru (List.take 48 pieces) V = U
  dsimp only [dotP]
  after_results
  try simp only [TRef.ofBuf_toBuf]
  rfl

theorem turn : at_ V main_v180 = rotV (at_ V main_v129) (at_ V main_v164) (at_ V main_v159) (at_ V main_v167) (at_ V main_v170) := by
  unfold at_
  rw [thru_at pieces V 49 _ rfl main_v180 (by decide), thru_keep pieces V 49 main_v129 (by decide), thru_keep pieces V 49 main_v164 (by decide), thru_keep pieces V 49 main_v159 (by decide), thru_keep pieces V 49 main_v167 (by decide), thru_keep pieces V 49 main_v170 (by decide)]
  generalize thru (List.take 49 pieces) V = U
  dsimp only [rotP]
  after_results
  try simp only [TRef.ofBuf_toBuf]
  rfl

theorem scale : at_ V main_v185 = scaleV (at_ V main_v180) (at_ V main_v150) (at_ V main_v151) := by
  unfold at_
  rw [thru_at pieces V 50 _ rfl main_v185 (by decide), thru_keep pieces V 50 main_v180 (by decide), thru_keep pieces V 50 main_v150 (by decide), thru_keep pieces V 50 main_v151 (by decide)]
  generalize thru (List.take 50 pieces) V = U
  dsimp only [scaleP]
  after_results
  try simp only [TRef.ofBuf_toBuf]
  rfl

theorem left : at_ V main_v187 = subf (F := Ideal) (s := S8x576x256) (φ := .f32) (at_ V main_v124) (shapeCast S8x576x256 (at_ V main_v185) shapeCasts_S4608x256_S8x576x256) := by
  unfold at_
  rw [thru_at pieces V 51 _ rfl main_v187 (by decide), thru_keep pieces V 51 main_v124 (by decide), thru_keep pieces V 51 main_v185 (by decide)]
  generalize thru (List.take 51 pieces) V = U
  dsimp only [outP]
  after_results
  try simp only [TRef.ofBuf_toBuf]
  rfl

theorem sum : at_ V main_v188 = addf (F := Ideal) (s := S8x576x256) (φ := .f32) (at_ V main_v125) (shapeCast S8x576x256 (at_ V main_v185) shapeCasts_S4608x256_S8x576x256) := by
  unfold at_
  rw [thru_at pieces V 51 _ rfl main_v188 (by decide), thru_keep pieces V 51 main_v125 (by decide), thru_keep pieces V 51 main_v185 (by decide)]
  generalize thru (List.take 51 pieces) V = U
  dsimp only [outP]
  after_results
  try simp only [TRef.ofBuf_toBuf]
  rfl

theorem idx : at_ V main_v189 = shapeCast S8x576 (at_ V main_v144) shapeCasts_S4608_S8x576 := by
  unfold at_
  rw [thru_at pieces V 51 _ rfl main_v189 (by decide), thru_keep pieces V 51 main_v144 (by decide)]
  generalize thru (List.take 51 pieces) V = U
  dsimp only [outP]
  after_results
  try simp only [TRef.ofBuf_toBuf]
  rfl

/-- The rotated rows of the stage. -/
theorem step : at_ V main_v185 = stepV (at_ V main_v129) (at_ V main_v128) := by
  rw [scale, turn, w, sn, s', s, q, z, qn, zn, ew, ez, w, sn, s', s, q, z, qn, zn, take, arg, dist]
  rfl

/-- The positions of the stage. -/
theorem found : at_ V main_v144 = argV (distV (at_ V main_v129) (at_ V main_v128)) := by
  rw [arg, dist]

/-- The loss of the stage. -/
theorem missed : at_ V main_v149 = lossV (quantV (at_ V main_v129) (at_ V main_v128)) (at_ V main_v129) := by
  rw [loss, take, arg, dist]
  rfl

end Cert.ReferenceIdeal.Stage2

end
-- ==== Proof.RefStage3.lean ====
/- Stage four of the reference: what its buffers end holding, one buffer in terms of the buffers it is computed from. -/
module

public import proofs.«01_k».proof.Proof.RefAt
public import proofs.«01_k».proof.Proof.RefVec

@[expose] public section

set_option maxRecDepth 16384
set_option maxHeartbeats 1000000

noncomputable section

namespace Cert.ReferenceIdeal.Stage3

open Cert.ReferenceIdeal Cert.ReferenceIdeal.Gen Cert.ReferenceIdeal.Pieces Cert.ReferenceIdeal.Vector Idealize.ShloMosaic
open Idealize.ShloMosaic.TcCoe Idealize.SL.Sem Idealize.ShloMosaic.StableHlo

variable (V : Valuation τ sig (Elt Ideal))

theorem book : at_ V main_v191 = shapeCast S1024x256 (extractStridedSlice S1x1024x256 ![3, 0, 0] (at_ V main_arg1) slices_S4x1024x256_S1x1024x256_3_0_0) shapeCasts_S1x1024x256_S1024x256 := by
  unfold at_
  rw [thru_at pieces V 52 _ rfl main_v191 (by decide), thru_keep pieces V 52 main_arg1 (by decide)]
  generalize thru (List.take 52 pieces) V = U
  dsimp only [inP]
  after_results
  try simp only [TRef.ofBuf_toBuf]
  rfl

theorem rows : at_ V main_v192 = shapeCast S4608x256 (at_ V main_v187) shapeCasts_S8x576x256_S4608x256 := by
  unfold at_
  rw [thru_at pieces V 52 _ rfl main_v192 (by decide), thru_keep pieces V 52 main_v187 (by decide)]
  generalize thru (List.take 52 pieces) V = U
  dsimp only [inP]
  after_results
  try simp only [TRef.ofBuf_toBuf]
  rfl

theorem dist : at_ V main_v206 = distV (at_ V main_v192) (at_ V main_v191) := by
  unfold at_
  rw [thru_at pieces V 53 _ rfl main_v206 (by decide), thru_keep pieces V 53 main_v192 (by decide), thru_keep pieces V 53 main_v191 (by decide)]
  generalize thru (List.take 53 pieces) V = U
  dsimp only [distP]
  after_results
  try simp only [TRef.ofBuf_toBuf]
  rfl

theorem arg : at_ V main_v207 = argV (at_ V main_v206) := by
  unfold at_
  rw [thru_at pieces V 54 _ rfl main_v207 (by decide), thru_keep pieces V 54 main_v206 (by decide)]
  generalize thru (List.take 54 pieces) V = U
  dsimp only [argP]
  after_results
  try simp only [TRef.ofBuf_toBuf]
  exact argV_eq _

theorem take : at_ V main_v208 = takeV (at_ V main_v191) (at_ V main_v207) := by
  unfold at_
  rw [thru_at pieces V 55 _ rfl main_v208 (by decide), thru_keep pieces V 55 main_v191 (by decide), thru_keep pieces V 55 main_v207 (by decide)]
  generalize thru (List.take 55 pieces) V = U
  dsimp only [takeP]
  after_results
  try simp only [TRef.ofBuf_toBuf]
  rfl

theorem loss : at_ V main_v212 = lossV (at_ V main_v208) (at_ V main_v192) := by
  unfold at_
  rw [thru_at pieces V 56 _ rfl main_v212 (by decide), thru_keep pieces V 56 main_v208 (by decide), thru_keep pieces V 56 main_v192 (by decide)]
  generalize thru (List.take 56 pieces) V = U
  dsimp only [lossP]
  after_results
  try simp only [TRef.ofBuf_toBuf]
  rfl

theorem zn : at_ V main_v213 = normV (at_ V main_v192) := by
  unfold at_
  rw [thru_at pieces V 57 _ rfl main_v213 (by decide), thru_keep pieces V 57 main_v192 (by decide)]
  generalize thru (List.take 57 pieces) V = U
  dsimp only [normP]
  after_results
  try simp only [TRef.ofBuf_toBuf]
  rfl

theorem qn : at_ V main_v214 = normV (at_ V main_v208) := by
  unfold at_
  rw [thru_at pieces V 58 _ rfl main_v214 (by decide), thru_keep pieces V 58 main_v208 (by decide)]
  generalize thru (List.take 58 pieces) V = U
  dsimp only [normP]
  after_results
  try simp only [TRef.ofBuf_toBuf]
  rfl

theorem z : at_ V main_v218 = unitV (at_ V main_v192) (at_ V main_v213) := by
  unfold at_
  rw [thru_at pieces V 59 _ rfl main_v218 (by decide), thru_keep pieces V 59 main_v192 (by decide), thru_keep pieces V 59 main_v213 (by decide)]
  generalize thru (List.take 59 pieces) V = U
  dsimp only [unitP]
  after_results
  try simp only [TRef.ofBuf_toBuf]
  rfl

theorem q : at_ V main_v222 = unitV (at_ V main_v208) (at_ V main_v214) := by
  unfold at_
  rw [thru_at pieces V 60 _ rfl main_v222 (by decide), thru_keep pieces V 60 main_v208 (by decide), thru_keep pieces V 60 main_v214 (by decide)]
  generalize thru (List.take 60 pieces) V = U
  dsimp only [unitP]
  after_results
  try simp only [TRef.ofBuf_toBuf]
  rfl

theorem s : at_ V main_v223 = addf (F := Ideal) (s := S4608x256) (φ := .f32) (at_ V main_v218) (at_ V main_v222) := by
  unfold at_
  rw [thru_at pieces V 61 _ rfl main_v223 (by decide), thru_keep pieces V 61 main_v218 (by decide), thru_keep pieces V 61 main_v222 (by decide)]
  generalize thru (List.take 61 pieces) V = U
  dsimp only [sumP]
  after_results
  try simp only [TRef.ofBuf_toBuf]
  rfl

theorem s' : at_ V main_v224 = addf (F := Ideal) (s := S4608x256) (φ := .f32) (at_ V main_v218) (at_ V main_v222) := by
  unfold at_
  rw [thru_at pieces V 61 _ rfl main_v224 (by decide), thru_keep pieces V 61 main_v218 (by decide), thru_keep pieces V 61 main_v222 (by decide)]
  generalize thru (List.take 61 pieces) V = U
  dsimp only [sumP]
  after_results
  try simp only [TRef.ofBuf_toBuf]
  rfl

theorem sn : at_ V main_v225 = normV (at_ V main_v224) := by
  unfold at_
  rw [thru_at pieces V 62 _ rfl main_v225 (by decide), thru_keep pieces V 62 main_v224 (by decide)]
  generalize thru (List.take 62 pieces) V = U
  dsimp only [normP]
  after_results
  try simp only [TRef.ofBuf_toBuf]
  rfl

theorem w : at_ V main_v227 = overV (at_ V main_v223) (at_ V main_v225) := by
  unfold at_
  rw [thru_at pieces V 63 _ rfl main_v227 (by decide), thru_keep pieces V 63 main_v223 (by decide), thru_keep pieces V 63 main_v225 (by decide)]
  generalize thru (List.take 63 pieces) V = U
  dsimp only [overP]
  after_results
  try simp only [TRef.ofBuf_toBuf]
  rfl

theorem ew : at_ V main_v230 = dotV (at_ V main_v192) (at_ V main_v227) := by
  unfold at_
  rw [thru_at pieces V 64 _ rfl main_v230 (by decide), thru_keep pieces V 64 main_v192 (by decide), thru_keep pieces V 64 main_v227 (by decide)]
  generalize thru (List.take 64 pieces) V = U
  dsimp only [dotP]
  after_results
  try simp only [TRef.ofBuf_toBuf]
  rfl

theorem ez : at_ V main_v233 = dotV (at_ V main_v192) (at_ V main_v218) := by
  unfold at_
  rw [thru_at pieces V 65 _ rfl main_v233 (by decide), thru_keep pieces V 65 main_v192 (by decide), thru_keep pieces V 65 main_v218 (by decide)]
  generalize thru (List.take 65 pieces) V = U
  dsimp only [dotP]
  after_results
  try simp only [TRef.ofBuf_toBuf]
  rfl

theorem turn : at_ V main_v243 = rotV (at_ V main_v192) (at_ V main_v227) (at_ V main_v222) (at_ V main_v230) (at_ V main_v233) := by
  unfold at_
  rw [thru_at pieces V 66 _ rfl main_v243 (by decide), thru_keep pieces V 66 main_v192 (by decide), thru_keep pieces V 66 main_v227 (by decide), thru_keep pieces V 66 main_v222 (by decide), thru_keep pieces V 66 main_v230 (by decide), thru_keep pieces V 66 main_v233 (by decide)]
  generalize thru (List.take 66 pieces) V = U
  dsimp only [rotP]
  after_results
  try simp only [TRef.ofBuf_toBuf]
  rfl

theorem scale : at_ V main_v248 = scaleV (at_ V main_v243) (at_ V main_v213) (at_ V main_v214) := by
  unfold at_
  rw [thru_at pieces V 67 _ rfl main_v248 (by decide), thru_keep pieces V 67 main_v243 (by decide), thru_keep pieces V 67 main_v213 (by decide), thru_keep pieces V 67 main_v214 (by decide)]
  generalize thru (List.take 67 pieces) V = U
  dsimp only [scaleP]
  after_results
  try simp only [TRef.ofBuf_toBuf]
  rfl

theorem left : at_ V main_v250 = subf (F := Ideal) (s := S8x576x256) (φ := .f32) (at_ V main_v187) (shapeCast S8x576x256 (at_ V main_v248) shapeCasts_S4608x256_S8x576x256) := by
  unfold at_
  rw [thru_at pieces V 68 _ rfl main_v250 (by decide), thru_keep pieces V 68 main_v187 (by decide), thru_keep pieces V 68 main_v248 (by decide)]
  generalize thru (List.take 68 pieces) V = U
  dsimp only [outP]
  after_results
  try simp only [TRef.ofBuf_toBuf]
  rfl

theorem sum : at_ V main_v251 = addf (F := Ideal) (s := S8x576x256) (φ := .f32) (at_ V main_v188) (shapeCast S8x576x256 (at_ V main_v248) shapeCasts_S4608x256_S8x576x256) := by
  unfold at_
  rw [thru_at pieces V 68 _ rfl main_v251 (by decide), thru_keep pieces V 68 main_v188 (by decide), thru_keep pieces V 68 main_v248 (by decide)]
  generalize thru (List.take 68 pieces) V = U
  dsimp only [outP]
  after_results
  try simp only [TRef.ofBuf_toBuf]
  rfl

theorem idx : at_ V main_v252 = shapeCast S8x576 (at_ V main_v207) shapeCasts_S4608_S8x576 := by
  unfold at_
  rw [thru_at pieces V 68 _ rfl main_v252 (by decide), thru_keep pieces V 68 main_v207 (by decide)]
  generalize thru (List.take 68 pieces) V = U
  dsimp only [outP]
  after_results
  try simp only [TRef.ofBuf_toBuf]
  rfl

/-- The rotated rows of the stage. -/
theorem step : at_ V main_v248 = stepV (at_ V main_v192) (at_ V main_v191) := by
  rw [scale, turn, w, sn, s', s, q, z, qn, zn, ew, ez, w, sn, s', s, q, z, qn, zn, take, arg, dist]
  rfl

/-- The positions of the stage. -/
theorem found : at_ V main_v207 = argV (distV (at_ V main_v192) (at_ V main_v191)) := by
  rw [arg, dist]

/-- The loss of the stage. -/
theorem missed : at_ V main_v212 = lossV (quantV (at_ V main_v192) (at_ V main_v191)) (at_ V main_v192) := by
  rw [loss, take, arg, dist]
  rfl

end Cert.ReferenceIdeal.Stage3

end
-- ==== Proof.RefStage0.lean ====
/- Stage one of the reference: what its buffers end holding, one buffer in terms of the buffers it is computed from. -/
module

public import proofs.«01_k».proof.Proof.RefAt
public import proofs.«01_k».proof.Proof.RefVec

@[expose] public section

set_option maxRecDepth 16384
set_option maxHeartbeats 1000000

noncomputable section

namespace Cert.ReferenceIdeal.Stage0

open Cert.ReferenceIdeal Cert.ReferenceIdeal.Gen Cert.ReferenceIdeal.Pieces Cert.ReferenceIdeal.Vector Idealize.ShloMosaic
open Idealize.ShloMosaic.TcCoe Idealize.SL.Sem Idealize.ShloMosaic.StableHlo

variable (V : Valuation τ sig (Elt Ideal))

theorem book : at_ V main_v2 = shapeCast S1024x256 (extractStridedSlice S1x1024x256 ![0, 0, 0] (at_ V main_arg1) slices_S4x1024x256_S1x1024x256_0_0_0) shapeCasts_S1x1024x256_S1024x256 := by
  unfold at_
  rw [thru_at pieces V 1 _ rfl main_v2 (by decide), thru_keep pieces V 1 main_arg1 (by decide)]
  generalize thru (List.take 1 pieces) V = U
  dsimp only [inP]
  after_results
  try simp only [TRef.ofBuf_toBuf]
  rfl

theorem rows : at_ V main_v3 = shapeCast S4608x256 (at_ V main_arg0) shapeCasts_S8x576x256_S4608x256 := by
  unfold at_
  rw [thru_at pieces V 1 _ rfl main_v3 (by decide), thru_keep pieces V 1 main_arg0 (by decide)]
  generalize thru (List.take 1 pieces) V = U
  dsimp only [inP]
  after_results
  try simp only [TRef.ofBuf_toBuf]
  rfl

theorem dist : at_ V main_v17 = distV (at_ V main_v3) (at_ V main_v2) := by
  unfold at_
  rw [thru_at pieces V 2 _ rfl main_v17 (by decide), thru_keep pieces V 2 main_v3 (by decide), thru_keep pieces V 2 main_v2 (by decide)]
  generalize thru (List.take 2 pieces) V = U
  dsimp only [distP]
  after_results
  try simp only [TRef.ofBuf_toBuf]
  rfl

theorem arg : at_ V main_v18 = argV (at_ V main_v17) := by
  unfold at_
  rw [thru_at pieces V 3 _ rfl main_v18 (by decide), thru_keep pieces V 3 main_v17 (by decide)]
  generalize thru (List.take 3 pieces) V = U
  dsimp only [argP]
  after_results
  try simp only [TRef.ofBuf_toBuf]
  exact argV_eq _

theorem take : at_ V main_v19 = takeV (at_ V main_v2) (at_ V main_v18) := by
  unfold at_
  rw [thru_at pieces V 4 _ rfl main_v19 (by decide), thru_keep pieces V 4 main_v2 (by decide), thru_keep pieces V 4 main_v18 (by decide)]
  generalize thru (List.take 4 pieces) V = U
  dsimp only [takeP]
  after_results
  try simp only [TRef.ofBuf_toBuf]
  rfl

theorem loss : at_ V main_v23 = lossV (at_ V main_v19) (at_ V main_v3) := by
  unfold at_
  rw [thru_at pieces V 5 _ rfl main_v23 (by decide), thru_keep pieces V 5 main_v19 (by decide), thru_keep pieces V 5 main_v3 (by decide)]
  generalize thru (List.take 5 pieces) V = U
  dsimp only [lossP]
  after_results
  try simp only [TRef.ofBuf_toBuf]
  rfl

theorem zn : at_ V main_v24 = normV (at_ V main_v3) := by
  unfold at_
  rw [thru_at pieces V 6 _ rfl main_v24 (by decide), thru_keep pieces V 6 main_v3 (by decide)]
  generalize thru (List.take 6 pieces) V = U
  dsimp only [normP]
  after_results
  try simp only [TRef.ofBuf_toBuf]
  rfl

theorem qn : at_ V main_v25 = normV (at_ V main_v19) := by
  unfold at_
  rw [thru_at pieces V 7 _ rfl main_v25 (by decide), thru_keep pieces V 7 main_v19 (by decide)]
  generalize thru (List.take 7 pieces) V = U
  dsimp only [normP]
  after_results
  try simp only [TRef.ofBuf_toBuf]
  rfl

theorem z : at_ V main_v29 = unitV (at_ V main_v3) (at_ V main_v24) := by
  unfold at_
  rw [thru_at pieces V 8 _ rfl main_v29 (by decide), thru_keep pieces V 8 main_v3 (by decide), thru_keep pieces V 8 main_v24 (by decide)]
  generalize thru (List.take 8 pieces) V = U
  dsimp only [unitP]
  after_results
  try simp only [TRef.ofBuf_toBuf]
  rfl

theorem q : at_ V main_v33 = unitV (at_ V main_v19) (at_ V main_v25) := by
  unfold at_
  rw [thru_at pieces V 9 _ rfl main_v33 (by decide), thru_keep pieces V 9 main_v19 (by decide), thru_keep pieces V 9 main_v25 (by decide)]
  generalize thru (List.take 9 pieces) V = U
  dsimp only [unitP]
  after_results
  try simp only [TRef.ofBuf_toBuf]
  rfl

theorem s : at_ V main_v34 = addf (F := Ideal) (s := S4608x256) (φ := .f32) (at_ V main_v29) (at_ V main_v33) := by
  unfold at_
  rw [thru_at pieces V 10 _ rfl main_v34 (by decide), thru_keep pieces V 10 main_v29 (by decide), thru_keep pieces V 10 main_v33 (by decide)]
  generalize thru (List.take 10 pieces) V = U
  dsimp only [sumP]
  after_results
  try simp only [TRef.ofBuf_toBuf]
  rfl

theorem s' : at_ V main_v35 = addf (F := Ideal) (s := S4608x256) (φ := .f32) (at_ V main_v29) (at_ V main_v33) := by
  unfold at_
  rw [thru_at pieces V 10 _ rfl main_v35 (by decide), thru_keep pieces V 10 main_v29 (by decide), thru_keep pieces V 10 main_v33 (by decide)]
  generalize thru (List.take 10 pieces) V = U
  dsimp only [sumP]
  after_results
  try simp only [TRef.ofBuf_toBuf]
  rfl

theorem sn : at_ V main_v36 = normV (at_ V main_v35) := by
  unfold at_
  rw [thru_at pieces V 11 _ rfl main_v36 (by decide), thru_keep pieces V 11 main_v35 (by decide)]
  generalize thru (List.take 11 pieces) V = U
  dsimp only [normP]
  after_results
  try simp only [TRef.ofBuf_toBuf]
  rfl

theorem w : at_ V main_v38 = overV (at_ V main_v34) (at_ V main_v36) := by
  unfold at_
  rw [thru_at pieces V 12 _ rfl main_v38 (by decide), thru_keep pieces V 12 main_v34 (by decide), thru_keep pieces V 12 main_v36 (by decide)]
  generalize thru (List.take 12 pieces) V = U
  dsimp only [overP]
  after_results
  try simp only [TRef.ofBuf_toBuf]
  rfl

theorem ew : at_ V main_v41 = dotV (at_ V main_v3) (at_ V main_v38) := by
  unfold at_
  rw [thru_at pieces V 13 _ rfl main_v41 (by decide), thru_keep pieces V 13 main_v3 (by decide), thru_keep pieces V 13 main_v38 (by decide)]
  generalize thru (List.take 13 pieces) V = U
  dsimp only [dotP]
  after_results
  try simp only [TRef.ofBuf_toBuf]
  rfl

theorem ez : at_ V main_v44 = dotV (at_ V main_v3) (at_ V main_v29) := by
  unfold at_
  rw [thru_at pieces V 14 _ rfl main_v44 (by decide), thru_keep pieces V 14 main_v3 (by decide), thru_keep pieces V 14 main_v29 (by decide)]
  generalize thru (List.take 14 pieces) V = U
  dsimp only [dotP]
  after_results
  try simp only [TRef.ofBuf_toBuf]
  rfl

theorem turn : at_ V main_v54 = rotV (at_ V main_v3) (at_ V main_v38) (at_ V main_v33) (at_ V main_v41) (at_ V main_v44) := by
  unfold at_
  rw [thru_at pieces V 15 _ rfl main_v54 (by decide), thru_keep pieces V 15 main_v3 (by decide), thru_keep pieces V 15 main_v38 (by decide), thru_keep pieces V 15 main_v33 (by decide), thru_keep pieces V 15 main_v41 (by decide), thru_keep pieces V 15 main_v44 (by decide)]
  generalize thru (List.take 15 pieces) V = U
  dsimp only [rotP]
  after_results
  try simp only [TRef.ofBuf_toBuf]
  rfl

theorem scale : at_ V main_v59 = scaleV (at_ V main_v54) (at_ V main_v24) (at_ V main_v25) := by
  unfold at_
  rw [thru_at pieces V 16 _ rfl main_v59 (by decide), thru_keep pieces V 16 main_v54 (by decide), thru_keep pieces V 16 main_v24 (by decide), thru_keep pieces V 16 main_v25 (by decide)]
  generalize thru (List.take 16 pieces) V = U
  dsimp only [scaleP]
  after_results
  try simp only [TRef.ofBuf_toBuf]
  rfl

theorem left : at_ V main_v61 = subf (F := Ideal) (s := S8x576x256) (φ := .f32) (at_ V main_arg0) (shapeCast S8x576x256 (at_ V main_v59) shapeCasts_S4608x256_S8x576x256) := by
  unfold at_
  rw [thru_at pieces V 17 _ rfl main_v61 (by decide), thru_keep pieces V 17 main_arg0 (by decide), thru_keep pieces V 17 main_v59 (by decide)]
  generalize thru (List.take 17 pieces) V = U
  dsimp only [outP]
  after_results
  try simp only [TRef.ofBuf_toBuf]
  rfl

theorem sum : at_ V main_v62 = addf (F := Ideal) (s := S8x576x256) (φ := .f32) (at_ V main_v0) (shapeCast S8x576x256 (at_ V main_v59) shapeCasts_S4608x256_S8x576x256) := by
  unfold at_
  rw [thru_at pieces V 17 _ rfl main_v62 (by decide), thru_keep pieces V 17 main_v0 (by decide), thru_keep pieces V 17 main_v59 (by decide)]
  generalize thru (List.take 17 pieces) V = U
  dsimp only [outP]
  after_results
  try simp only [TRef.ofBuf_toBuf]
  rfl

theorem idx : at_ V main_v63 = shapeCast S8x576 (at_ V main_v18) shapeCasts_S4608_S8x576 := by
  unfold at_
  rw [thru_at pieces V 17 _ rfl main_v63 (by decide), thru_keep pieces V 17 main_v18 (by decide)]
  generalize thru (List.take 17 pieces) V = U
  dsimp only [outP]
  after_results
  try simp only [TRef.ofBuf_toBuf]
  rfl

/-- The rotated rows of the stage. -/
theorem step : at_ V main_v59 = stepV (at_ V main_v3) (at_ V main_v2) := by
  rw [scale, turn, w, sn, s', s, q, z, qn, zn, ew, ez, w, sn, s', s, q, z, qn, zn, take, arg, dist]
  rfl

/-- The positions of the stage. -/
theorem found : at_ V main_v18 = argV (distV (at_ V main_v3) (at_ V main_v2)) := by
  rw [arg, dist]

/-- The loss of the stage. -/
theorem missed : at_ V main_v23 = lossV (quantV (at_ V main_v3) (at_ V main_v2)) (at_ V main_v3) := by
  rw [loss, take, arg, dist]
  rfl

end Cert.ReferenceIdeal.Stage0

end
-- ==== Proof.RefEnd.lean ====
/- The end of the reference: its three results in terms of the buffers of the four stages. -/
module

public import proofs.«01_k».proof.Proof.RefStage0
public import Idealize.ShloMosaic.Lib.Pointwise
public import Idealize.ShloMosaic.Lib.Pipeline.Value

@[expose] public section

set_option maxRecDepth 16384
set_option maxHeartbeats 1000000

noncomputable section

namespace Cert.ReferenceIdeal.Stage4

open Cert.ReferenceIdeal Cert.ReferenceIdeal.Gen Cert.ReferenceIdeal.Pieces Cert.ReferenceIdeal.Vector Idealize.ShloMosaic
open Idealize.ShloMosaic.TcCoe Idealize.SL.Sem Idealize.ShloMosaic.StableHlo

variable (V : Valuation τ sig (Elt Ideal))

/-- Four columns of positions, one after another. -/
def placesV (a b c d : IVec S8x576 32) : IVec S4608x4 32 :=
  shapeCast S4608x4 (cat4i (F := Ideal) (broadcastInDim S8x576x1 ![0, 1] bcast_S8x576_S8x576x1_0_1 a)
    (broadcastInDim S8x576x1 ![0, 1] bcast_S8x576_S8x576x1_0_1 b) (broadcastInDim S8x576x1 ![0, 1] bcast_S8x576_S8x576x1_0_1 c)
    (broadcastInDim S8x576x1 ![0, 1] bcast_S8x576_S8x576x1_0_1 d)) shapeCasts_S8x576x4_S4608x4

/-- Four numbers in a row. -/
def fourV (a b c d : FVec Ideal S_ .f32) : FVec Ideal S1x4 .f32 :=
  shapeCast S1x4 (cat4f (F := Ideal) (broadcastInDim S1 ![] bcast_S_S1 a) (broadcastInDim S1 ![] bcast_S_S1 b)
    (broadcastInDim S1 ![] bcast_S_S1 c) (broadcastInDim S1 ![] bcast_S_S1 d)) shapeCasts_S4_S1x4

theorem zero : at_ V main_v0 = broadcastInDim S8x576x256 ![] bcast_S_S8x576x256 (constant (F := Ideal) S_ .f32 0x00000000#32) := by
  unfold at_
  rw [thru_at pieces V 0 _ rfl main_v0 (by decide)]
  generalize thru (List.take 0 pieces) V = U
  dsimp only [zeroP]
  after_results
  try simp only [TRef.ofBuf_toBuf]
  rfl

theorem out : at_ V main_v263 = shapeCast S4608x256 (at_ V main_v251) shapeCasts_S8x576x256_S4608x256 := by
  unfold at_
  rw [thru_at pieces V 69 _ rfl main_v263 (by decide), thru_keep pieces V 69 main_v251 (by decide)]
  generalize thru (List.take 69 pieces) V = U
  dsimp only [endP]
  after_results
  try simp only [TRef.ofBuf_toBuf]
  rfl

theorem places : at_ V main_v264 = placesV (at_ V main_v63) (at_ V main_v126) (at_ V main_v189) (at_ V main_v252) := by
  unfold at_
  rw [thru_at pieces V 69 _ rfl main_v264 (by decide), thru_keep pieces V 69 main_v63 (by decide), thru_keep pieces V 69 main_v126 (by decide), thru_keep pieces V 69 main_v189 (by decide), thru_keep pieces V 69 main_v252 (by decide)]
  generalize thru (List.take 69 pieces) V = U
  dsimp only [endP]
  after_results
  try simp only [TRef.ofBuf_toBuf]
  rfl

theorem losses : at_ V main_v265 = fourV (at_ V main_v23) (at_ V main_v86) (at_ V main_v149) (at_ V main_v212) := by
  unfold at_
  rw [thru_at pieces V 69 _ rfl main_v265 (by decide), thru_keep pieces V 69 main_v23 (by decide), thru_keep pieces V 69 main_v86 (by decide), thru_keep pieces V 69 main_v149 (by decide), thru_keep pieces V 69 main_v212 (by decide)]
  generalize thru (List.take 69 pieces) V = U
  dsimp only [endP]
  after_results
  try simp only [TRef.ofBuf_toBuf]
  rfl

theorem sub_rows (a : FVec Ideal S8x576x256 .f32) (b : FVec Ideal S4608x256 .f32) :
    shapeCast S4608x256 (subf a (shapeCast S8x576x256 b shapeCasts_S4608x256_S8x576x256)) shapeCasts_S8x576x256_S4608x256
      = subf (shapeCast S4608x256 a shapeCasts_S8x576x256_S4608x256) b :=
  congrArg (fun w => subf (shapeCast S4608x256 a shapeCasts_S8x576x256_S4608x256) w)
    (shapeCast_shapeCast b shapeCasts_S4608x256_S8x576x256 shapeCasts_S8x576x256_S4608x256)

theorem add_rows (a : FVec Ideal S8x576x256 .f32) (b : FVec Ideal S4608x256 .f32) :
    shapeCast S4608x256 (addf a (shapeCast S8x576x256 b shapeCasts_S4608x256_S8x576x256)) shapeCasts_S8x576x256_S4608x256
      = addf (shapeCast S4608x256 a shapeCasts_S8x576x256_S4608x256) b :=
  congrArg (fun w => addf (shapeCast S4608x256 a shapeCasts_S8x576x256_S4608x256) w)
    (shapeCast_shapeCast b shapeCasts_S4608x256_S8x576x256 shapeCasts_S8x576x256_S4608x256)

theorem book_at (e : FVec Ideal S4x1024x256 .f32) (k : Fin 4) (h : S4x1024x256.Slices ![k.val, 0, 0] S1x1024x256) (j : Fin 1024) (d : Fin 256) :
    shapeCast S1024x256 (extractStridedSlice S1x1024x256 ![k.val, 0, 0] e h) shapeCasts_S1x1024x256_S1024x256 (ix2 j d)
      = e (ix3 k j d) := by
  fin_cases k <;> pointwise []

theorem fourV_at (a b c d : FVec Ideal S_ .f32) (z : Fin 1) (k : Fin 4) : fourV a b c d (ix2 z k) = (![a, b, c, d] k) ix0 := by
  fin_cases k <;> pointwise [fourV, cat4f]

theorem placesV_at (a b c d : IVec S4608 32) (g : Fin 4608) (k : Fin 4) :
    placesV (shapeCast S8x576 a shapeCasts_S4608_S8x576) (shapeCast S8x576 b shapeCasts_S4608_S8x576)
      (shapeCast S8x576 c shapeCasts_S4608_S8x576) (shapeCast S8x576 d shapeCasts_S4608_S8x576) (ix2 g k) = (![a, b, c, d] k) (ix1 g) := by
  fin_cases k <;> pointwise [placesV, cat4i]

end Cert.ReferenceIdeal.Stage4

end
-- ==== Proof.RefRows.lean ====
/- The reference, row by row: what its three results hold. -/
module

public import proofs.«01_k».proof.Proof.Answer
public import proofs.«01_k».proof.Proof.RefStage1
public import proofs.«01_k».proof.Proof.RefStage2
public import proofs.«01_k».proof.Proof.RefStage3
public import proofs.«01_k».proof.Proof.RefEnd

@[expose] public section

set_option maxRecDepth 16384

noncomputable section

namespace Cert.ReferenceIdeal.Rows

open Cert.ReferenceIdeal Cert.ReferenceIdeal.Gen Cert.ReferenceIdeal.Pieces Cert.ReferenceIdeal.Vector Idealize.ShloMosaic
open Idealize.ShloMosaic.TcCoe Idealize.SL.Sem Idealize.ShloMosaic.StableHlo

/-- The rows `r` fill the table. -/
def Holds (x : FVec Ideal S4608x256 .f32) (r : Fin 4608 → Row.Vec) : Prop := ∀ g d, x (ix2 g d) = r g d

/-- The table holds a codebook. -/
def Codes (b : FVec Ideal S1024x256 .f32) (B : Row.Book) : Prop := ∀ j d, b (ix2 j d) = B j d

theorem Holds.row {x : FVec Ideal S4608x256 .f32} {r : Fin 4608 → Row.Vec} (hx : Holds x r) (g : Fin 4608) :
    (fun d => x (ix2 g d)) = r g := funext fun d => hx g d

theorem Codes.book {b : FVec Ideal S1024x256 .f32} {B : Row.Book} (hb : Codes b B) : (fun j d => b (ix2 j d)) = B :=
  funext fun j => funext fun d => hb j d

section
variable {x : FVec Ideal S4608x256 .f32} {r : Fin 4608 → Row.Vec} {b : FVec Ideal S1024x256 .f32} {B : Row.Book}

theorem step_at (hx : Holds x r) (hb : Codes b B) : Holds (stepV x b) fun g => Row.rot (r g) (Row.code (r g) B) := by
  intro g d
  rw [stepV_at, hx.row g, hb.book]

theorem found_at (hx : Holds x r) (hb : Codes b B) (g : Fin 4608) :
    argV (distV x b) (ix1 g) = BitVec.ofNat 32 (Row.pos (Row.dist (r g) B)).val := by
  rw [argV_at]
  congr 3
  funext j
  rw [distV_at, hx.row g, hb.book]

theorem lost_at (hx : Holds x r) (hb : Codes b B) (z : S_.Idx) :
    lossV (quantV x b) x z = Ideal.div (∑ g, Row.miss (r g) (Row.code (r g) B)) (Ideal.ofBits .f32 0x49900000#32) := by
  rw [lossV_at]
  refine congrArg (fun s : EReal => Ideal.div s (Ideal.ofBits .f32 0x49900000#32)) (Finset.sum_congr rfl fun g _ => ?_)
  have hq : (fun d => quantV x b (ix2 g d)) = Row.code (r g) B := funext fun d => by rw [quantV_at, hx.row g, hb.book]
  rw [hq, hx.row g]

end

theorem res_succ (r : Row.Vec) (E : Fin 4 → Row.Book) (k : Fin 4) : Row.res r E (k.val + 1) = Row.next (Row.res r E k.val) (E k) := by
  show (if h : k.val < 4 then _ else _) = _
  rw [dif_pos k.isLt]

variable (V : Valuation τ sig (Elt Ideal))

/-- A row of the input. -/
def inRow (g : Fin 4608) : Row.Vec := fun d =>
  (shapeCast S4608x256 (at_ V main_arg0) shapeCasts_S8x576x256_S4608x256 : FVec Ideal S4608x256 .f32) (ix2 g d)

/-- The codebooks. -/
def table4 : Fin 4 → Row.Book := fun k j d => (at_ V main_arg1 : FVec Ideal S4x1024x256 .f32) (ix3 k j d)

theorem book0 : Codes (at_ V main_v2) (table4 V 0) := by
  intro j d
  rw [Stage0.book V]
  exact Stage4.book_at (at_ V main_arg1) 0 _ j d

theorem rows0 : Holds (at_ V main_v3) fun g => Row.res (inRow V g) (table4 V) 0 := by
  intro g d
  rw [Stage0.rows V]
  rfl

theorem turned0 : Holds (at_ V main_v59) fun g => Row.turned (inRow V g) (table4 V) 0 := by
  intro g d
  rw [Stage0.step V]
  exact step_at (rows0 V) (book0 V) g d

theorem place0 (g : Fin 4608) : (at_ V main_v18 : IVec S4608 32) (ix1 g) = Row.place (inRow V g) (table4 V) 0 := by
  rw [Stage0.found V]
  exact found_at (rows0 V) (book0 V) g

theorem mean0 (z : S_.Idx) : (at_ V main_v23 : FVec Ideal S_ .f32) z = Row.mean (inRow V) (table4 V) 0 := by
  rw [Stage0.missed V]
  exact (lost_at (rows0 V) (book0 V) z).trans (Row.mean_div (inRow V) (table4 V) 0)

theorem book1 : Codes (at_ V main_v65) (table4 V 1) := by
  intro j d
  rw [Stage1.book V]
  exact Stage4.book_at (at_ V main_arg1) 1 _ j d

theorem rows1 : Holds (at_ V main_v66) fun g => Row.res (inRow V g) (table4 V) 1 := by
  have e : at_ V main_v66 = subf (F := Ideal) (s := S4608x256) (φ := .f32) (at_ V main_v3) (at_ V main_v59) := by
    rw [Stage1.rows V, Stage0.left V, Stage0.rows V]
    exact Stage4.sub_rows _ _
  intro g d
  rw [e]
  refine Eq.trans ?_ (congrFun (res_succ (inRow V g) (table4 V) 0) d).symm
  exact congrArg₂ (fun a b : EReal => a - b) (rows0 V g d) (turned0 V g d)

theorem turned1 : Holds (at_ V main_v122) fun g => Row.turned (inRow V g) (table4 V) 1 := by
  intro g d
  rw [Stage1.step V]
  exact step_at (rows1 V) (book1 V) g d

theorem place1 (g : Fin 4608) : (at_ V main_v81 : IVec S4608 32) (ix1 g) = Row.place (inRow V g) (table4 V) 1 := by
  rw [Stage1.found V]
  exact found_at (rows1 V) (book1 V) g

theorem mean1 (z : S_.Idx) : (at_ V main_v86 : FVec Ideal S_ .f32) z = Row.mean (inRow V) (table4 V) 1 := by
  rw [Stage1.missed V]
  exact (lost_at (rows1 V) (book1 V) z).trans (Row.mean_div (inRow V) (table4 V) 1)

theorem book2 : Codes (at_ V main_v128) (table4 V 2) := by
  intro j d
  rw [Stage2.book V]
  exact Stage4.book_at (at_ V main_arg1) 2 _ j d

theorem rows2 : Holds (at_ V main_v129) fun g => Row.res (inRow V g) (table4 V) 2 := by
  have e : at_ V main_v129 = subf (F := Ideal) (s := S4608x256) (φ := .f32) (at_ V main_v66) (at_ V main_v122) := by
    rw [Stage2.rows V, Stage1.left V, Stage1.rows V]
    exact Stage4.sub_rows _ _
  intro g d
  rw [e]
  refine Eq.trans ?_ (congrFun (res_succ (inRow V g) (table4 V) 1) d).symm
  exact congrArg₂ (fun a b : EReal => a - b) (rows1 V g d) (turned1 V g d)

theorem turned2 : Holds (at_ V main_v185) fun g => Row.turned (inRow V g) (table4 V) 2 := by
  intro g d
  rw [Stage2.step V]
  exact step_at (rows2 V) (book2 V) g d

theorem place2 (g : Fin 4608) : (at_ V main_v144 : IVec S4608 32) (ix1 g) = Row.place (inRow V g) (table4 V) 2 := by
  rw [Stage2.found V]
  exact found_at (rows2 V) (book2 V) g

theorem mean2 (z : S_.Idx) : (at_ V main_v149 : FVec Ideal S_ .f32) z = Row.mean (inRow V) (table4 V) 2 := by
  rw [Stage2.missed V]
  exact (lost_at (rows2 V) (book2 V) z).trans (Row.mean_div (inRow V) (table4 V) 2)

theorem book3 : Codes (at_ V main_v191) (table4 V 3) := by
  intro j d
  rw [Stage3.book V]
  exact Stage4.book_at (at_ V main_arg1) 3 _ j d

theorem rows3 : Holds (at_ V main_v192) fun g => Row.res (inRow V g) (table4 V) 3 := by
  have e : at_ V main_v192 = subf (F := Ideal) (s := S4608x256) (φ := .f32) (at_ V main_v129) (at_ V main_v185) := by
    rw [Stage3.rows V, Stage2.left V, Stage2.rows V]
    exact Stage4.sub_rows _ _
  intro g d
  rw [e]
  refine Eq.trans ?_ (congrFun (res_succ (inRow V g) (table4 V) 2) d).symm
  exact congrArg₂ (fun a b : EReal => a - b) (rows2 V g d) (turned2 V g d)

theorem turned3 : Holds (at_ V main_v248) fun g => Row.turned (inRow V g) (table4 V) 3 := by
  intro g d
  rw [Stage3.step V]
  exact step_at (rows3 V) (book3 V) g d

theorem place3 (g : Fin 4608) : (at_ V main_v207 : IVec S4608 32) (ix1 g) = Row.place (inRow V g) (table4 V) 3 := by
  rw [Stage3.found V]
  exact found_at (rows3 V) (book3 V) g

theorem mean3 (z : S_.Idx) : (at_ V main_v212 : FVec Ideal S_ .f32) z = Row.mean (inRow V) (table4 V) 3 := by
  rw [Stage3.missed V]
  exact (lost_at (rows3 V) (book3 V) z).trans (Row.mean_div (inRow V) (table4 V) 3)

theorem out_eq : at_ V main_v263
    = addf (F := Ideal) (s := S4608x256) (φ := .f32) (addf (addf (addf (shapeCast S4608x256 (at_ V main_v0) shapeCasts_S8x576x256_S4608x256)
        (at_ V main_v59)) (at_ V main_v122)) (at_ V main_v185)) (at_ V main_v248) := by
  rw [Stage4.out V, Stage3.sum V]
  refine (Stage4.add_rows _ _).trans (congrArg (fun w : FVec Ideal S4608x256 .f32 => addf w _) ?_)
  rw [Stage2.sum V]
  refine (Stage4.add_rows _ _).trans (congrArg (fun w : FVec Ideal S4608x256 .f32 => addf w _) ?_)
  rw [Stage1.sum V]
  refine (Stage4.add_rows _ _).trans (congrArg (fun w : FVec Ideal S4608x256 .f32 => addf w _) ?_)
  rw [Stage0.sum V]
  exact Stage4.add_rows _ _

theorem zero_at (g : Fin 4608) (d : Fin 256) :
    (shapeCast S4608x256 (at_ V main_v0) shapeCasts_S8x576x256_S4608x256 : FVec Ideal S4608x256 .f32) (ix2 g d)
      = Ideal.ofBits .f32 0x00000000#32 := by
  rw [Stage4.zero V]
  rfl

theorem out_at (g : Fin 4608) (d : Fin 256) :
    (at_ V main_v263 : FVec Ideal S4608x256 .f32) (ix2 g d) = Row.total (inRow V g) (table4 V) d := by
  rw [out_eq V]
  exact congrArg₂ (fun a b : EReal => a + b) (congrArg₂ (fun a b : EReal => a + b) (congrArg₂ (fun a b : EReal => a + b)
    (congrArg₂ (fun a b : EReal => a + b) (zero_at V g d) (turned0 V g d)) (turned1 V g d)) (turned2 V g d)) (turned3 V g d)

theorem idx_at (g : Fin 4608) (k : Fin 4) :
    (at_ V main_v264 : IVec S4608x4 32) (ix2 g k) = Row.place (inRow V g) (table4 V) k := by
  rw [Stage4.places V, Stage0.idx V, Stage1.idx V, Stage2.idx V, Stage3.idx V]
  refine (Stage4.placesV_at (at_ V main_v18) (at_ V main_v81) (at_ V main_v144) (at_ V main_v207) g k).trans ?_
  fin_cases k
  · exact place0 V g
  · exact place1 V g
  · exact place2 V g
  · exact place3 V g

theorem loss_at (z : Fin 1) (k : Fin 4) :
    (at_ V main_v265 : FVec Ideal S1x4 .f32) (ix2 z k) = Row.mean (inRow V) (table4 V) k := by
  rw [Stage4.losses V]
  refine (Stage4.fourV_at (at_ V main_v23) (at_ V main_v86) (at_ V main_v149) (at_ V main_v212) z k).trans ?_
  fin_cases k
  · exact mean0 V ix0
  · exact mean1 V ix0
  · exact mean2 V ix0
  · exact mean3 V ix0

end Cert.ReferenceIdeal.Rows

end
-- ==== Proof.Same.lean ====
/- The kernel and the reference end with the same three results. -/
module

public import proofs.«01_k».proof.Defs
public import proofs.«01_k».proof.Proof.Fold
public import proofs.«01_k».proof.Proof.RefRows
public import proofs.«01_k».proof.Proof.RefFrame

@[expose] public section

set_option maxRecDepth 16384

noncomputable section

namespace Cert.Same

open Idealize.ShloMosaic Idealize.ShloMosaic.TcCoe Idealize.SL.Sem

variable (m : (ℓ : Loc Cert.KernelIdeal.nD Cert.KernelIdeal.τ Cert.KernelIdeal.sig) → Buf (Elt Ideal) ℓ)
variable (V : Valuation Cert.ReferenceIdeal.τ Cert.ReferenceIdeal.sig (Elt Ideal)) (c : Dev Cert.KernelIdeal.nD)
variable (h0 : V (Proc.devRef .tc Cert.ReferenceIdeal.main_arg0) = m ((c : Thread Cert.KernelIdeal.nD Cert.KernelIdeal.τ).loc Cert.KernelIdeal.main_arg0))
variable (h1 : V (Proc.devRef .tc Cert.ReferenceIdeal.main_arg1) = m ((c : Thread Cert.KernelIdeal.nD Cert.KernelIdeal.τ).loc Cert.KernelIdeal.main_arg1))

include h0 in
theorem rows : Cert.ReferenceIdeal.Rows.inRow V = Cert.KernelIdeal.Tile.inRow m c := by
  funext g d
  unfold Cert.ReferenceIdeal.Rows.inRow
  rw [show Cert.ReferenceIdeal.Pieces.at_ V Cert.ReferenceIdeal.main_arg0 = _ from (Cert.ReferenceIdeal.Pieces.thru_arg0 V).trans h0]
  rfl

include h1 in
theorem codes : Cert.ReferenceIdeal.Rows.table4 V = Cert.KernelIdeal.Tile.table4 m c := by
  funext k j d
  unfold Cert.ReferenceIdeal.Rows.table4
  rw [show Cert.ReferenceIdeal.Pieces.at_ V Cert.ReferenceIdeal.main_arg1 = _ from (Cert.ReferenceIdeal.Pieces.thru_arg1 V).trans h1]
  rfl

include h0 h1 in
theorem out : Cert.ReferenceIdeal.Pieces.at_ V Cert.ReferenceIdeal.main_v263 = Cert.KernelIdeal.Value.G5 m c := by
  refine Cert.KernelIdeal.Tile.ext2 (a := 4608) (b := 256) fun g d => ?_
  refine (Cert.ReferenceIdeal.Rows.out_at V g d).trans ?_
  rw [rows m V c h0, codes m V c h1]
  exact (Cert.KernelIdeal.Tile.G5_at m c g d).symm

include h0 h1 in
theorem idx : Cert.ReferenceIdeal.Pieces.at_ V Cert.ReferenceIdeal.main_v264 = Cert.KernelIdeal.Value.G6 m c := by
  refine Cert.KernelIdeal.Tile.ext2 (a := 4608) (b := 4) fun g k => ?_
  refine (Cert.ReferenceIdeal.Rows.idx_at V g k).trans ?_
  rw [rows m V c h0, codes m V c h1]
  exact (Cert.KernelIdeal.Tile.G6_at m c g k).symm

include h0 h1 in
theorem loss : Cert.ReferenceIdeal.Pieces.at_ V Cert.ReferenceIdeal.main_v265 = Cert.KernelIdeal.Value.G7 m c := by
  refine Cert.KernelIdeal.Tile.ext2 (a := 1) (b := 4) fun z k => ?_
  refine (Cert.ReferenceIdeal.Rows.loss_at V z k).trans ?_
  rw [rows m V c h0, codes m V c h1]
  exact (Cert.KernelIdeal.Tile.G7_at m c z k).symm

theorem algebraic : algebraic_KernelIdeal_ReferenceIdeal := by
  intro m g m' g' _ hagree
  refine ⟨fun c => Cert.KernelIdeal.Value.G5 m c, fun c => Cert.KernelIdeal.Value.G6 m c, fun c => Cert.KernelIdeal.Value.G7 m c,
    Cert.KernelIdeal.Value.run m g, ?_⟩
  refine (θ_run _ _ _).mono ?_ (Cert.ReferenceIdeal.Pieces.run_pieces m' g')
  intro r hr c
  have h0 := (hagree c).1
  have h1 := (hagree c).2
  refine ⟨?_, ?_, ?_, ?_, ?_⟩
  · exact (hr c _).trans (out m _ c h0 h1)
  · exact (hr c _).trans (idx m _ c h0 h1)
  · exact (hr c _).trans (loss m _ c h0 h1)
  · exact (hr c _).trans (Cert.ReferenceIdeal.Pieces.thru_arg0 _)
  · exact (hr c _).trans (Cert.ReferenceIdeal.Pieces.thru_arg1 _)

end Cert.Same

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.RefFrame
public import proofs.«01_k».proof.Proof.Same
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m ρ _ => Cert.Kernel.Gen.frame m ρ,
  fun m ρ _ => Cert.KernelIdeal.Gen.frame m ρ,
  fun m ρ _ => Cert.ReferenceIdeal.Pieces.frame m ρ,
  IdealRules.named_const.statement Cert.KernelIdeal.κ "inv_n" .f32 0x35638E39#32 _ rfl,
  Cert.Same.algebraic⟩

end Cert.Proof

end
